-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S1024x1024 : Shape := ⟨2, ![1024, 1024]⟩
abbrev S3x1024x1024 : Shape := ⟨3, ![3, 1024, 1024]⟩
abbrev S2x1024x1024 : Shape := ⟨3, ![2, 1024, 1024]⟩
abbrev S3 : Shape := ⟨1, ![3]⟩
abbrev S2 : Shape := ⟨1, ![2]⟩
abbrev S_ : Shape := ⟨0, ![]⟩
abbrev S1 : Shape := ⟨1, ![1]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S1024x1024, .f32⟩
  | .local _ .vmem, ⟨1, _⟩ => ⟨S1024x1024, .bf16⟩
  | .local _ .vmem, ⟨2, _⟩ => ⟨S3x1024x1024, .bf16⟩
  | .local _ .vmem, ⟨3, _⟩ => ⟨S3x1024x1024, .bf16⟩
  | .local _ .vmem, ⟨4, _⟩ => ⟨S2x1024x1024, .f32⟩
  | .local _ .vmem, ⟨5, _⟩ => ⟨S1024x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v43 : BitVec 32 := Scalar.muli v2 c1024_i32
  let c0_i32_32 : BitVec 32 := 0#32
  ![v43.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_33 : BitVec 32 := 1024#32
  let v49 : BitVec 32 := Scalar.muli v2 c1024_i32_33
  let c1024_i32_38 : BitVec 32 := 1024#32
  ![v49.toNat, 1024]
def k0_off3 (d0 : Dev nD) (c1_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.addi v2 c1_i32_39
  let c4_i32_40 : BitVec 32 := 4#32
  let c0_i32_41 : BitVec 32 := 0#32
  let v56 : BitVec 1 := Scalar.cmpi .eq c4_i32_40 c0_i32_41
  let c1_i32_42 : BitVec 32 := 1#32
  let v57 : BitVec 32 := Scalar.select v56 c1_i32_42 c4_i32_40
  let v58 : BitVec 32 := Scalar.remsi v55 v57
  let c0_i32_44 : BitVec 32 := 0#32
  let v60 : BitVec 1 := Scalar.cmpi .slt v58 c0_i32_44
  let c0_i32_45 : BitVec 32 := 0#32
  let v61 : BitVec 1 := Scalar.cmpi .slt v57 c0_i32_45
  let v62 : BitVec 1 := Scalar.xori v60 v61
  let c0_i32_43 : BitVec 32 := 0#32
  let v59 : BitVec 1 := Scalar.cmpi .ne v58 c0_i32_43
  let v63 : BitVec 1 := Scalar.andi v62 v59
  let v64 : BitVec 32 := Scalar.addi v58 v57
  let v65 : BitVec 32 := Scalar.select v63 v64 v58
  let c1024_i32_46 : BitVec 32 := 1024#32
  let v66 : BitVec 32 := Scalar.muli v65 c1024_i32_46
  let c0_i32_47 : BitVec 32 := 0#32
  ![v66.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v74 : BitVec 32 := Scalar.addi v2 c1_i32_53
  let c4_i32_54 : BitVec 32 := 4#32
  let c0_i32_55 : BitVec 32 := 0#32
  let v75 : BitVec 1 := Scalar.cmpi .eq c4_i32_54 c0_i32_55
  let c1_i32_56 : BitVec 32 := 1#32
  let v76 : BitVec 32 := Scalar.select v75 c1_i32_56 c4_i32_54
  let v77 : BitVec 32 := Scalar.remsi v74 v76
  let c0_i32_58 : BitVec 32 := 0#32
  let v79 : BitVec 1 := Scalar.cmpi .slt v77 c0_i32_58
  let c0_i32_59 : BitVec 32 := 0#32
  let v80 : BitVec 1 := Scalar.cmpi .slt v76 c0_i32_59
  let v81 : BitVec 1 := Scalar.xori v79 v80
  let c0_i32_57 : BitVec 32 := 0#32
  let v78 : BitVec 1 := Scalar.cmpi .ne v77 c0_i32_57
  let v82 : BitVec 1 := Scalar.andi v81 v78
  let v83 : BitVec 32 := Scalar.addi v77 v76
  let v84 : BitVec 32 := Scalar.select v82 v83 v77
  let c1_i32_64 : BitVec 32 := 1#32
  let v85 : BitVec 32 := Scalar.muli v84 c1_i32_64
  let v86 : BitVec 32 := Scalar.addi c0_i32_65 v85
  v86.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_70 : BitVec 32 := 1024#32
  let v95 : BitVec 32 := Scalar.muli v2 c1024_i32_70
  let c0_i32_71 : BitVec 32 := 0#32
  ![v95.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_112 : BitVec 32 := 1024#32
  let v151 : BitVec 32 := Scalar.muli v2 c1024_i32_112
  let c2048_i32 : BitVec 32 := 2048#32
  ![v151.toNat, 2048]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_142 : BitVec 32 := 1024#32
  let v189 : BitVec 32 := Scalar.muli v2 c1024_i32_142
  let c3072_i32 : BitVec 32 := 3072#32
  ![v189.toNat, 3072]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_159 : BitVec 32 := 1024#32
  let v208 : BitVec 32 := Scalar.muli v2 c1024_i32_159
  let c4096_i32 : BitVec 32 := 4096#32
  ![v208.toNat, 4096]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_182 : BitVec 32 := 1024#32
  let v233 : BitVec 32 := Scalar.muli v2 c1024_i32_182
  let c5120_i32 : BitVec 32 := 5120#32
  ![v233.toNat, 5120]
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_86 : BitVec 32 := 3#32
  let v116 : BitVec 32 := Scalar.addi v2 c3_i32_86
  let c4_i32_87 : BitVec 32 := 4#32
  let c0_i32_88 : BitVec 32 := 0#32
  let v117 : BitVec 1 := Scalar.cmpi .eq c4_i32_87 c0_i32_88
  let c1_i32_89 : BitVec 32 := 1#32
  let v118 : BitVec 32 := Scalar.select v117 c1_i32_89 c4_i32_87
  let v119 : BitVec 32 := Scalar.remsi v116 v118
  let c0_i32_91 : BitVec 32 := 0#32
  let v121 : BitVec 1 := Scalar.cmpi .slt v119 c0_i32_91
  let c0_i32_92 : BitVec 32 := 0#32
  let v122 : BitVec 1 := Scalar.cmpi .slt v118 c0_i32_92
  let v123 : BitVec 1 := Scalar.xori v121 v122
  let c0_i32_90 : BitVec 32 := 0#32
  let v120 : BitVec 1 := Scalar.cmpi .ne v119 c0_i32_90
  let v124 : BitVec 1 := Scalar.andi v123 v120
  let v125 : BitVec 32 := Scalar.addi v119 v118
  let v126 : BitVec 32 := Scalar.select v124 v125 v119
  let c1_i32_191 : BitVec 32 := 1#32
  let v239 : BitVec 32 := Scalar.muli v126 c1_i32_191
  let v240 : BitVec 32 := Scalar.addi c0_i32_192 v239
  v240.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_209 : BitVec 32 := 1024#32
  let v262 : BitVec 32 := Scalar.muli v2 c1024_i32_209
  let c6144_i32 : BitVec 32 := 6144#32
  ![v262.toNat, 6144]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_226 : BitVec 32 := 1024#32
  let v281 : BitVec 32 := Scalar.muli v2 c1024_i32_226
  let c7168_i32 : BitVec 32 := 7168#32
  ![v281.toNat, 7168]
def k0_dev6 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v127 : BitVec 32 := Scalar.addi v2 c2_i32_93
  let c4_i32_94 : BitVec 32 := 4#32
  let c0_i32_95 : BitVec 32 := 0#32
  let v128 : BitVec 1 := Scalar.cmpi .eq c4_i32_94 c0_i32_95
  let c1_i32_96 : BitVec 32 := 1#32
  let v129 : BitVec 32 := Scalar.select v128 c1_i32_96 c4_i32_94
  let v130 : BitVec 32 := Scalar.remsi v127 v129
  let c0_i32_98 : BitVec 32 := 0#32
  let v132 : BitVec 1 := Scalar.cmpi .slt v130 c0_i32_98
  let c0_i32_99 : BitVec 32 := 0#32
  let v133 : BitVec 1 := Scalar.cmpi .slt v129 c0_i32_99
  let v134 : BitVec 1 := Scalar.xori v132 v133
  let c0_i32_97 : BitVec 32 := 0#32
  let v131 : BitVec 1 := Scalar.cmpi .ne v130 c0_i32_97
  let v135 : BitVec 1 := Scalar.andi v134 v131
  let v136 : BitVec 32 := Scalar.addi v130 v129
  let v137 : BitVec 32 := Scalar.select v135 v136 v130
  let c1_i32_235 : BitVec 32 := 1#32
  let v287 : BitVec 32 := Scalar.muli v137 c1_i32_235
  let v288 : BitVec 32 := Scalar.addi c0_i32_236 v287
  v288.toNat
def k0_off11 (d0 : Dev nD) (c3_i32_253 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v310 : BitVec 32 := Scalar.addi v2 c3_i32_253
  let c4_i32_254 : BitVec 32 := 4#32
  let c0_i32_255 : BitVec 32 := 0#32
  let v311 : BitVec 1 := Scalar.cmpi .eq c4_i32_254 c0_i32_255
  let c1_i32_256 : BitVec 32 := 1#32
  let v312 : BitVec 32 := Scalar.select v311 c1_i32_256 c4_i32_254
  let v313 : BitVec 32 := Scalar.remsi v310 v312
  let c0_i32_258 : BitVec 32 := 0#32
  let v315 : BitVec 1 := Scalar.cmpi .slt v313 c0_i32_258
  let c0_i32_259 : BitVec 32 := 0#32
  let v316 : BitVec 1 := Scalar.cmpi .slt v312 c0_i32_259
  let v317 : BitVec 1 := Scalar.xori v315 v316
  let c0_i32_257 : BitVec 32 := 0#32
  let v314 : BitVec 1 := Scalar.cmpi .ne v313 c0_i32_257
  let v318 : BitVec 1 := Scalar.andi v317 v314
  let v319 : BitVec 32 := Scalar.addi v313 v312
  let v320 : BitVec 32 := Scalar.select v318 v319 v313
  let c1024_i32_260 : BitVec 32 := 1024#32
  let v321 : BitVec 32 := Scalar.muli v320 c1024_i32_260
  let c0_i32_265 : BitVec 32 := 0#32
  ![v321.toNat, 0]
def k0_off12 (d0 : Dev nD) (c3_i32_278 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v340 : BitVec 32 := Scalar.addi v2 c3_i32_278
  let c4_i32_279 : BitVec 32 := 4#32
  let c0_i32_280 : BitVec 32 := 0#32
  let v341 : BitVec 1 := Scalar.cmpi .eq c4_i32_279 c0_i32_280
  let c1_i32_281 : BitVec 32 := 1#32
  let v342 : BitVec 32 := Scalar.select v341 c1_i32_281 c4_i32_279
  let v343 : BitVec 32 := Scalar.remsi v340 v342
  let c0_i32_283 : BitVec 32 := 0#32
  let v345 : BitVec 1 := Scalar.cmpi .slt v343 c0_i32_283
  let c0_i32_284 : BitVec 32 := 0#32
  let v346 : BitVec 1 := Scalar.cmpi .slt v342 c0_i32_284
  let v347 : BitVec 1 := Scalar.xori v345 v346
  let c0_i32_282 : BitVec 32 := 0#32
  let v344 : BitVec 1 := Scalar.cmpi .ne v343 c0_i32_282
  let v348 : BitVec 1 := Scalar.andi v347 v344
  let v349 : BitVec 32 := Scalar.addi v343 v342
  let v350 : BitVec 32 := Scalar.select v348 v349 v343
  let c1024_i32_285 : BitVec 32 := 1024#32
  let v351 : BitVec 32 := Scalar.muli v350 c1024_i32_285
  let c1024_i32_290 : BitVec 32 := 1024#32
  ![v351.toNat, 1024]
def k0_off13 (d0 : Dev nD) (c3_i32_317 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v381 : BitVec 32 := Scalar.addi v2 c3_i32_317
  let c4_i32_318 : BitVec 32 := 4#32
  let c0_i32_319 : BitVec 32 := 0#32
  let v382 : BitVec 1 := Scalar.cmpi .eq c4_i32_318 c0_i32_319
  let c1_i32_320 : BitVec 32 := 1#32
  let v383 : BitVec 32 := Scalar.select v382 c1_i32_320 c4_i32_318
  let v384 : BitVec 32 := Scalar.remsi v381 v383
  let c0_i32_322 : BitVec 32 := 0#32
  let v386 : BitVec 1 := Scalar.cmpi .slt v384 c0_i32_322
  let c0_i32_323 : BitVec 32 := 0#32
  let v387 : BitVec 1 := Scalar.cmpi .slt v383 c0_i32_323
  let v388 : BitVec 1 := Scalar.xori v386 v387
  let c0_i32_321 : BitVec 32 := 0#32
  let v385 : BitVec 1 := Scalar.cmpi .ne v384 c0_i32_321
  let v389 : BitVec 1 := Scalar.andi v388 v385
  let v390 : BitVec 32 := Scalar.addi v384 v383
  let v391 : BitVec 32 := Scalar.select v389 v390 v384
  let c1024_i32_324 : BitVec 32 := 1024#32
  let v392 : BitVec 32 := Scalar.muli v391 c1024_i32_324
  let c2048_i32_329 : BitVec 32 := 2048#32
  ![v392.toNat, 2048]
def k0_off14 (d0 : Dev nD) (c3_i32_346 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v414 : BitVec 32 := Scalar.addi v2 c3_i32_346
  let c4_i32_347 : BitVec 32 := 4#32
  let c0_i32_348 : BitVec 32 := 0#32
  let v415 : BitVec 1 := Scalar.cmpi .eq c4_i32_347 c0_i32_348
  let c1_i32_349 : BitVec 32 := 1#32
  let v416 : BitVec 32 := Scalar.select v415 c1_i32_349 c4_i32_347
  let v417 : BitVec 32 := Scalar.remsi v414 v416
  let c0_i32_351 : BitVec 32 := 0#32
  let v419 : BitVec 1 := Scalar.cmpi .slt v417 c0_i32_351
  let c0_i32_352 : BitVec 32 := 0#32
  let v420 : BitVec 1 := Scalar.cmpi .slt v416 c0_i32_352
  let v421 : BitVec 1 := Scalar.xori v419 v420
  let c0_i32_350 : BitVec 32 := 0#32
  let v418 : BitVec 1 := Scalar.cmpi .ne v417 c0_i32_350
  let v422 : BitVec 1 := Scalar.andi v421 v418
  let v423 : BitVec 32 := Scalar.addi v417 v416
  let v424 : BitVec 32 := Scalar.select v422 v423 v417
  let c1024_i32_353 : BitVec 32 := 1024#32
  let v425 : BitVec 32 := Scalar.muli v424 c1024_i32_353
  let c3072_i32_358 : BitVec 32 := 3072#32
  ![v425.toNat, 3072]
def k0_off15 (d0 : Dev nD) (c3_i32_375 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v447 : BitVec 32 := Scalar.addi v2 c3_i32_375
  let c4_i32_376 : BitVec 32 := 4#32
  let c0_i32_377 : BitVec 32 := 0#32
  let v448 : BitVec 1 := Scalar.cmpi .eq c4_i32_376 c0_i32_377
  let c1_i32_378 : BitVec 32 := 1#32
  let v449 : BitVec 32 := Scalar.select v448 c1_i32_378 c4_i32_376
  let v450 : BitVec 32 := Scalar.remsi v447 v449
  let c0_i32_380 : BitVec 32 := 0#32
  let v452 : BitVec 1 := Scalar.cmpi .slt v450 c0_i32_380
  let c0_i32_381 : BitVec 32 := 0#32
  let v453 : BitVec 1 := Scalar.cmpi .slt v449 c0_i32_381
  let v454 : BitVec 1 := Scalar.xori v452 v453
  let c0_i32_379 : BitVec 32 := 0#32
  let v451 : BitVec 1 := Scalar.cmpi .ne v450 c0_i32_379
  let v455 : BitVec 1 := Scalar.andi v454 v451
  let v456 : BitVec 32 := Scalar.addi v450 v449
  let v457 : BitVec 32 := Scalar.select v455 v456 v450
  let c1024_i32_382 : BitVec 32 := 1024#32
  let v458 : BitVec 32 := Scalar.muli v457 c1024_i32_382
  let c4096_i32_387 : BitVec 32 := 4096#32
  ![v458.toNat, 4096]
def k0_off16 (d0 : Dev nD) (c3_i32_404 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v480 : BitVec 32 := Scalar.addi v2 c3_i32_404
  let c4_i32_405 : BitVec 32 := 4#32
  let c0_i32_406 : BitVec 32 := 0#32
  let v481 : BitVec 1 := Scalar.cmpi .eq c4_i32_405 c0_i32_406
  let c1_i32_407 : BitVec 32 := 1#32
  let v482 : BitVec 32 := Scalar.select v481 c1_i32_407 c4_i32_405
  let v483 : BitVec 32 := Scalar.remsi v480 v482
  let c0_i32_409 : BitVec 32 := 0#32
  let v485 : BitVec 1 := Scalar.cmpi .slt v483 c0_i32_409
  let c0_i32_410 : BitVec 32 := 0#32
  let v486 : BitVec 1 := Scalar.cmpi .slt v482 c0_i32_410
  let v487 : BitVec 1 := Scalar.xori v485 v486
  let c0_i32_408 : BitVec 32 := 0#32
  let v484 : BitVec 1 := Scalar.cmpi .ne v483 c0_i32_408
  let v488 : BitVec 1 := Scalar.andi v487 v484
  let v489 : BitVec 32 := Scalar.addi v483 v482
  let v490 : BitVec 32 := Scalar.select v488 v489 v483
  let c1024_i32_411 : BitVec 32 := 1024#32
  let v491 : BitVec 32 := Scalar.muli v490 c1024_i32_411
  let c5120_i32_416 : BitVec 32 := 5120#32
  ![v491.toNat, 5120]
def k0_off17 (d0 : Dev nD) (c3_i32_433 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v513 : BitVec 32 := Scalar.addi v2 c3_i32_433
  let c4_i32_434 : BitVec 32 := 4#32
  let c0_i32_435 : BitVec 32 := 0#32
  let v514 : BitVec 1 := Scalar.cmpi .eq c4_i32_434 c0_i32_435
  let c1_i32_436 : BitVec 32 := 1#32
  let v515 : BitVec 32 := Scalar.select v514 c1_i32_436 c4_i32_434
  let v516 : BitVec 32 := Scalar.remsi v513 v515
  let c0_i32_438 : BitVec 32 := 0#32
  let v518 : BitVec 1 := Scalar.cmpi .slt v516 c0_i32_438
  let c0_i32_439 : BitVec 32 := 0#32
  let v519 : BitVec 1 := Scalar.cmpi .slt v515 c0_i32_439
  let v520 : BitVec 1 := Scalar.xori v518 v519
  let c0_i32_437 : BitVec 32 := 0#32
  let v517 : BitVec 1 := Scalar.cmpi .ne v516 c0_i32_437
  let v521 : BitVec 1 := Scalar.andi v520 v517
  let v522 : BitVec 32 := Scalar.addi v516 v515
  let v523 : BitVec 32 := Scalar.select v521 v522 v516
  let c1024_i32_440 : BitVec 32 := 1024#32
  let v524 : BitVec 32 := Scalar.muli v523 c1024_i32_440
  let c6144_i32_445 : BitVec 32 := 6144#32
  ![v524.toNat, 6144]
def k0_off18 (d0 : Dev nD) (c3_i32_462 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v546 : BitVec 32 := Scalar.addi v2 c3_i32_462
  let c4_i32_463 : BitVec 32 := 4#32
  let c0_i32_464 : BitVec 32 := 0#32
  let v547 : BitVec 1 := Scalar.cmpi .eq c4_i32_463 c0_i32_464
  let c1_i32_465 : BitVec 32 := 1#32
  let v548 : BitVec 32 := Scalar.select v547 c1_i32_465 c4_i32_463
  let v549 : BitVec 32 := Scalar.remsi v546 v548
  let c0_i32_467 : BitVec 32 := 0#32
  let v551 : BitVec 1 := Scalar.cmpi .slt v549 c0_i32_467
  let c0_i32_468 : BitVec 32 := 0#32
  let v552 : BitVec 1 := Scalar.cmpi .slt v548 c0_i32_468
  let v553 : BitVec 1 := Scalar.xori v551 v552
  let c0_i32_466 : BitVec 32 := 0#32
  let v550 : BitVec 1 := Scalar.cmpi .ne v549 c0_i32_466
  let v554 : BitVec 1 := Scalar.andi v553 v550
  let v555 : BitVec 32 := Scalar.addi v549 v548
  let v556 : BitVec 32 := Scalar.select v554 v555 v549
  let c1024_i32_469 : BitVec 32 := 1024#32
  let v557 : BitVec 32 := Scalar.muli v556 c1024_i32_469
  let c7168_i32_474 : BitVec 32 := 7168#32
  ![v557.toNat, 7168]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.lean ====
/-
# The protocol of the kernel: who waits for whom, and what travels

Four devices exchange blocks. Each device signals the barrier of the three others and waits for three units on its own;
then it sends one block to each of the others, and multiplies what it has received.

Notation: the *hop* `k : Fin 3` of a transfer is its distance minus one: device `c` sends with hop `k` to `fwd k c`, which is
`c + k + 1` around the ring, and receives with hop `k` from `bwd k c`, which is `c - k - 1`. Slot `k` of the send and of the
receive buffer, and semaphore `k` of either array, belong to hop `k`.

This module fixes the cells, the schedule of duties and payloads, the levels that order the waits, and what a device owes at
launch.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's copy, the rounds of the exchange, the counters of the local copies -/

/-- The tokens of the rounds: three duties to a semaphore. -/
abbrev UB : Type := URounds (GSem nD τ sig) (Fin 3)
/-- The resources of the whole run. -/
abbrev UU : Type := UR sig nD τ × (UB × Counters)

local notation "𝕄" => MT nD τ sig Unit (Elt F) ℕ UU ℕ

/-- The launch's part of the resources. -/
abbrev EP : Emb (UR sig nD τ) (MT nD τ sig Unit (Elt F) ℕ UU ℕ) := embL

/-- The embedding of the rounds' ghost state. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance : (ER (F := F)).LandsIn (upEmb : UEmb _ (MT nD τ sig Unit (Elt F) ℕ UU ℕ)) := by unfold ER; infer_instance

variable (m : (ℓ : Loc nD τ sig) → Buf (Elt F) ℓ)

/-! ## The ring -/

set_option backward.proofsInPublic true in
/-- The device that `c` sends to with hop `k`. -/
def fwd (k : Fin 3) (c : Dev nD) : Dev nD := ⟨(c.val + k.val + 1) % 4, Nat.mod_lt _ (by decide)⟩
set_option backward.proofsInPublic true in
/-- The device that `c` receives from with hop `k`. -/
def bwd (k : Fin 3) (c : Dev nD) : Dev nD := ⟨(c.val + (3 - k.val)) % 4, Nat.mod_lt _ (by decide)⟩

/-- A hop forwards, then the same hop backwards, leads home; -/
theorem bwd_fwd (k : Fin 3) (c : Dev nD) : bwd k (fwd k c) = c := by revert k c; decide
/-- and so the other way round. -/
theorem fwd_bwd (k : Fin 3) (c : Dev nD) : fwd k (bwd k c) = c := by revert k c; decide
/-- The hop that leads back: forwards by `k`, then forwards by `rev k`, is once around the ring. -/
theorem fwd_rev_fwd (k : Fin 3) (c : Dev nD) : fwd k.rev (fwd k c) = c := by revert k c; decide

/-- The device names the program computes, as hops: the three signals and the three transfers. -/
theorem dev1_eq (c : Dev nD) : (⟨k0_dev1 c, k0_dev1_lt c⟩ : Dev nD) = fwd 0 c := by revert c; decide
/-- The second signal goes to hop 1. -/
theorem dev2_eq (c : Dev nD) : (⟨k0_dev2 c, k0_dev2_lt c⟩ : Dev nD) = fwd 1 c := by revert c; decide
/-- The third signal goes to hop 2. -/
theorem dev3_eq (c : Dev nD) : (⟨k0_dev3 c, k0_dev3_lt c⟩ : Dev nD) = fwd 2 c := by revert c; decide
/-- The first transfer goes to hop 0. -/
theorem dev4_eq (c : Dev nD) : (⟨k0_dev4 c, k0_dev4_lt c⟩ : Dev nD) = fwd 0 c := by revert c; decide
/-- The second transfer goes to hop 2. -/
theorem dev5_eq (c : Dev nD) : (⟨k0_dev5 c, k0_dev5_lt c⟩ : Dev nD) = fwd 2 c := by revert c; decide
/-- The third transfer goes to hop 1. -/
theorem dev6_eq (c : Dev nD) : (⟨k0_dev6 c, k0_dev6_lt c⟩ : Dev nD) = fwd 1 c := by revert c; decide

/-! ## Semaphores and cells -/

/-- The runtime's barrier semaphore. -/
abbrev barS : Sem sig := (SemArray.scalar (sig.barrier 0 rfl) : Sems sig S_).sem

/-- A semaphore of an array of three lies inside it. -/
theorem inb_sem (k : Fin 3) : ∀ a, (![k.val] : Fin 1 → ℕ) a + S1.size a ≤ S3.size a := by revert k; decide

/-- Semaphore `k` of an array of three. -/
abbrev semAt (s : DmaSems sig S3) (k : Fin 3) : DmaSem sig :=
  ((s.slice (Rect.unit (s := S3) ![k.val] S1.size (inb_sem k))).squeeze S_ squeezes_S1_S_).sem

/-- The semaphore that says that transfer `k` has left. -/
abbrev sendS (k : Fin 3) : DmaSem sig := semAt cc0_scratch6 k
/-- The semaphore that says that transfer `k` has arrived. -/
abbrev recvS (k : Fin 3) : DmaSem sig := semAt cc0_scratch7 k

/-- Device `c`'s barrier. -/
abbrev barCell (c : Dev nD) : GSem nD τ sig := ((c : Thread nD τ), .reg barS)
/-- Device `c`'s departure semaphore of hop `k`. -/
abbrev sendCell (c : Dev nD) (k : Fin 3) : GSem nD τ sig := ((c : Thread nD τ), .dma (sendS k))
/-- Device `c`'s arrival semaphore of hop `k`. -/
abbrev recvCell (c : Dev nD) (k : Fin 3) : GSem nD τ sig := ((c : Thread nD τ), .dma (recvS k))

/-! ## The slots of the send and receive buffers -/

/-- A slot of an exchange buffer lies inside it. -/
theorem inb_slot3 (k : Fin 3) : ∀ a, (![k.val, 0, 0] : Fin 3 → ℕ) a + S1x1024x1024.size a ≤ S3x1024x1024.size a := by revert k; decide

/-- Slot `k` of a buffer of three. -/
abbrev slotM (b : Memref sig .tc .vmem S3x1024x1024 .bf16) (k : Fin 3) : Memref sig .tc .vmem S1024x1024 .bf16 :=
  (b.slice (Rect.unit (s := S3x1024x1024) ![k.val, 0, 0] S1x1024x1024.size (inb_slot3 k)) (fun _ => rfl)).squeeze S1024x1024
    squeezes_S1x1024x1024_S1024x1024

/-- Slot `k` of the send buffer. -/
abbrev sendM (k : Fin 3) : Memref sig .tc .vmem S1024x1024 .bf16 := slotM (Memref.whole cc0_scratch2) k
/-- Slot `k` of the receive buffer. -/
abbrev recvM (k : Fin 3) : Memref sig .tc .vmem S1024x1024 .bf16 := slotM (Memref.whole cc0_scratch3) k

/-- Slot `k` of device `c`'s send buffer, at contents `f`. -/
def sendPts (c : Dev nD) (k : Fin 3) (f : Buf (Elt F) ((sendM k).view.loc (c : Thread nD τ))) : sProp 𝕄 :=
  (sendM k).view.loc (c : Thread nD τ) ↦[(sendM k).view.set]{fullShare} f
/-- Slot `k` of device `c`'s receive buffer, at contents `f`. -/
def recvPts (c : Dev nD) (k : Fin 3) (f : Buf (Elt F) ((recvM k).view.loc (c : Thread nD τ))) : sProp 𝕄 :=
  (recvM k).view.loc (c : Thread nD τ) ↦[(recvM k).view.set]{fullShare} f

omit [FloatOps F] in
instance sendPts_storable (c : Dev nD) (k f) : BI.Storable (upEmb : UEmb _ 𝕄) (sendPts (F := F) c k f) := by unfold sendPts; infer_instance
omit [FloatOps F] in
instance recvPts_storable (c : Dev nD) (k f) : BI.Storable (upEmb : UEmb _ 𝕄) (recvPts (F := F) c k f) := by unfold recvPts; infer_instance

/-- The credit of one block. -/
abbrev N : ℕ := (recvM 0).view.dmaCredit
/-- A transfer counts for something. -/
theorem N_pos : 0 < N := View.dmaCredit_pos _ (by decide)

/-! ## Contents -/

/-- A block of rows lies inside `x`. -/
theorem inb_rows (j : Dev nD) : ∀ a, (![1024 * j.val, 0] : Fin 2 → ℕ) a + S1024x1024.size a ≤ S4096x1024.size a := by revert j; decide

/-- The window of `x` that goes to device `j`: its rows `1024 j …`. -/
abbrev xWin (j : Dev nD) : Memref sig .tc .hbm S1024x1024 .f32 :=
  (Memref.whole main_arg0).slice (Rect.unit (s := S4096x1024) ![1024 * j.val, 0] S1024x1024.size (inb_rows j)) (fun _ => rfl)

/-- Rows `1024 j …` of device `p`'s block of `x`. -/
def xBlk (p j : Dev nD) : Vec F S1024x1024 .f32 := (xWin j).view.read (Elt F) (m ((p : Thread nD τ).loc main_arg0))

/-- What device `p` sends to device `j` (and what it keeps for itself when `j = p`): those rows, rounded to bf16. -/
def sent (p j : Dev nD) : Vec F S1024x1024 .bf16 := truncf .bf16 (xBlk m p j) bitsLt_bf16_f32

/-! ## The schedule -/

/-- What device `fwd k c` hands `c` with its signal: the slot of its receive buffer that `c` will fill, and that it stands at
    the start of the round of the semaphore that announces the arrival. -/
def barPay (c : Dev nD) (k : Fin 3) : sProp 𝕄 := iprop((∃ f, recvPts (fwd k c) k f) ∗ reached ER (recvCell (fwd k c) k) 0)
/-- What an arrival hands device `c`: the slot, holding what `bwd k c` sent. -/
def recvPay (c : Dev nD) (k : Fin 3) : sProp 𝕄 :=
  iprop(∃ f, recvPts c k f ∗ ⌜(recvM k).view.read (Elt F) f = sent m (bwd k c) c⌝)
/-- What a departure hands back: the slot of the send buffer. -/
def sendPay (c : Dev nD) (k : Fin 3) : sProp 𝕄 := iprop(∃ f, sendPts c k f)

/-- A cell is a barrier. -/
abbrev IsBar (g : GSem nD τ sig) : Prop := g.1.2 = .tc ∧ g.2 = .reg barS
/-- A cell belongs to a transfer. -/
abbrev IsXfer (g : GSem nD τ sig) : Prop := g.1.2 = .tc ∧ ∃ k, g.2 = .dma (sendS k) ∨ g.2 = .dma (recvS k)

/-- One round. A barrier cell has three duties of one unit, duty `k` paid by the device `k + 1` ahead; a send or a receive cell
    has the one duty `0`, of the block's credit. -/
def exRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay g.1.1 0
    else if g.2 = .dma (sendS 1) then sendPay g.1.1 1
    else if g.2 = .dma (sendS 2) then sendPay g.1.1 2
    else iprop(emp)
  amount_pos g _ _ _ := by
    by_cases h : g.2 = .reg barS
    · rw [if_pos h]; exact Nat.one_pos
    · rw [if_neg h]; exact N_pos

instance exRd_payload_storable (g : GSem nD τ sig) (r : ℕ) (d : Fin 3) :
    BI.Storable (upEmb : UEmb _ 𝕄) ((exRd (F := F) m).payload g r d) := by
  show BI.Storable upEmb (if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay g.1.1 0
    else if g.2 = .dma (sendS 1) then sendPay g.1.1 1
    else if g.2 = .dma (sendS 2) then sendPay g.1.1 2
    else iprop(emp))
  unfold barPay recvPay sendPay
  (repeat' split) <;> infer_instance

section Sched
variable (c : Dev nD)

/-- No semaphore of a copy is the barrier. -/
theorem dma_ne_bar (q : DmaSem sig) : (SemLoc.dma q : SemLoc sig) ≠ .reg barS := fun h => by cases h
/-- Arrivals of different hops have different semaphores; -/
theorem recvS_inj {k k' : Fin 3} (h : (SemLoc.dma (recvS k) : SemLoc sig) = .dma (recvS k')) : k = k' := by revert k k'; decide
/-- so have departures; -/
theorem sendS_inj {k k' : Fin 3} (h : (SemLoc.dma (sendS k) : SemLoc sig) = .dma (sendS k')) : k = k' := by revert k k'; decide
/-- and no departure shares one with an arrival. -/
theorem send_ne_recv (k k' : Fin 3) : (SemLoc.dma (sendS k) : SemLoc sig) ≠ .dma (recvS k') := by revert k k'; decide

/-- A barrier has three duties, one for each other device. -/
theorem duties_bar : (exRd (F := F) m).duties (barCell c) 0 = Finset.univ := by dsimp only [exRd]; exact if_pos ⟨rfl, rfl, rfl⟩
/-- A departure has one duty; -/
theorem duties_send (k : Fin 3) : (exRd (F := F) m).duties (sendCell c k) 0 = {0} := by
  dsimp only [exRd]; rw [if_neg (fun h => dma_ne_bar _ h.2.2)]; exact if_pos ⟨rfl, rfl, k, .inl rfl⟩
/-- so has an arrival. -/
theorem duties_recv (k : Fin 3) : (exRd (F := F) m).duties (recvCell c k) 0 = {0} := by
  dsimp only [exRd]; rw [if_neg (fun h => dma_ne_bar _ h.2.2)]; exact if_pos ⟨rfl, rfl, k, .inr rfl⟩
/-- There is one round only. -/
theorem duties_later (g : GSem nD τ sig) : ∀ r, 1 ≤ r → (exRd (F := F) m).duties g r = ∅ :=
  fun r hr => by dsimp only [exRd]; rw [if_neg fun h => by omega, if_neg fun h => by omega]

/-- A signal is one unit; -/
theorem amount_bar (d : Fin 3) : (exRd (F := F) m).amount (barCell c) 0 d = 1 := by dsimp only [exRd]; exact if_pos rfl
/-- a transfer counts for a whole block. -/
theorem amount_dma (q : DmaSem sig) (d : Fin 3) : (exRd (F := F) m).amount ((c : Thread nD τ), .dma q) 0 d = N := by
  dsimp only [exRd]; exact if_neg (dma_ne_bar _)

/-- A barrier waits for three units, -/
theorem expect_bar : (exRd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- a departure for a whole block, -/
theorem expect_send (k : Fin 3) : (exRd (F := F) m).expect (sendCell c k) 0 = N := by
  unfold Schedule.expect Schedule.amountOf; rw [duties_send, Finset.sum_singleton, amount_dma]
/-- and so does an arrival. -/
theorem expect_recv (k : Fin 3) : (exRd (F := F) m).expect (recvCell c k) 0 = N := by
  unfold Schedule.expect Schedule.amountOf; rw [duties_recv, Finset.sum_singleton, amount_dma]

/-- What a signal hands over. -/
theorem payload_bar (k : Fin 3) : (exRd (F := F) m).payload (barCell c) 0 k = barPay c k := by dsimp only [exRd]; rw [if_pos rfl]
/-- What an arrival hands over. -/
theorem payload_recv (k d : Fin 3) : (exRd (F := F) m).payload (recvCell c k) 0 d = recvPay m c k := by
  dsimp only [exRd]
  rw [if_neg (dma_ne_bar _)]
  have h := fun j (hj : k ≠ j) => (fun e => hj (recvS_inj e) : (SemLoc.dma (recvS k) : SemLoc sig) ≠ .dma (recvS j))
  obtain rfl | rfl | rfl : k = 0 ∨ k = 1 ∨ k = 2 := by revert k; decide
  · rw [if_pos rfl]
  · rw [if_neg (h 0 (by decide)), if_pos rfl]
  · rw [if_neg (h 0 (by decide)), if_neg (h 1 (by decide)), if_pos rfl]
/-- What a departure hands back. -/
theorem payload_send (k d : Fin 3) : (exRd (F := F) m).payload (sendCell c k) 0 d = sendPay c k := by
  dsimp only [exRd]
  rw [if_neg (dma_ne_bar _), if_neg (send_ne_recv k 0), if_neg (send_ne_recv k 1), if_neg (send_ne_recv k 2)]
  have h := fun j (hj : k ≠ j) => (fun e => hj (sendS_inj e) : (SemLoc.dma (sendS k) : SemLoc sig) ≠ .dma (sendS j))
  obtain rfl | rfl | rfl : k = 0 ∨ k = 1 ∨ k = 2 := by revert k; decide
  · rw [if_pos rfl]
  · rw [if_neg (h 0 (by decide)), if_pos rfl]
  · rw [if_neg (h 0 (by decide)), if_neg (h 1 (by decide)), if_pos rfl]

end Sched

/-! ## What a device owes at launch; the levels -/

/-- The arrival device `c` owes the receiver of its transfer with hop `k`. -/
abbrev owesRecv (c : Dev nD) (k : Fin 3) : CellTallies nD τ sig Unit := tallyAt (recvCell (fwd k c) k) () N
/-- The unit device `c` owes the barrier of `fwd k c`. -/
abbrev owesBar (c : Dev nD) (k : Fin 3) : CellTallies nD τ sig Unit := tallyAt (barCell (fwd k c)) () 1

/-- Summed in the reverse of program order, so each step pays the last summand: the transfers go out in the order of hops 0, 2, 1. -/
abbrev owe1 (c : Dev nD) : CellTallies nD τ sig Unit := owesRecv c 1
/-- What is left owing after the first transfer. -/
abbrev owe2 (c : Dev nD) : CellTallies nD τ sig Unit := owesRecv c 1 + owesRecv c 2
/-- What is left owing after the signals. -/
abbrev owe3 (c : Dev nD) : CellTallies nD τ sig Unit := owesRecv c 1 + owesRecv c 2 + owesRecv c 0
/-- What a device owes at launch: three signals and three arrivals. -/
abbrev O₀ (c : Dev nD) : CellTallies nD τ sig Unit := owe3 c + owesBar c 2 + owesBar c 1 + owesBar c 0

/-- Every semaphore of a TensorCore has a level. -/
def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ k, g.2 = .dma (recvS k) then 2 else 0

/-- Off the TensorCores there is none; -/
theorem L_of_ne (g : GSem nD τ sig) (h : g.1.2 ≠ .tc) : L g = ∅ := if_neg h
/-- on them there is one. -/
theorem L_tc (c : Dev nD) (sm : SemLoc sig) : L ((c : Thread nD τ), sm) = {()} := if_pos rfl

/-- A cell to which `O` owes something is some core's, and its level is at least `n`. -/
def Above (n : ℕ) (O : CellTallies nD τ sig Unit) : Prop := ∀ g u, 0 < O g u → L g = {()} ∧ n ≤ lv g u

/-- Owing nothing is above every level. -/
theorem above_zero (n : ℕ) : Above n 0 := fun g u h => absurd h (Nat.lt_irrefl 0)
/-- Two debts above a level are so together. -/
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- A debt to one cell is as high as the cell. -/
theorem above_tally {n : ℕ} (g : GSem nD τ sig) (k : ℕ) (hg : L g = {()} ∧ n ≤ lv g ()) : Above n (tallyAt g () k) := fun g' u hp => by
  rw [tallyAt_apply] at hp
  by_cases h : g' = g ∧ u = ()
  · rw [h.1]; exact hg
  · rw [if_neg h] at hp; exact absurd hp (Nat.lt_irrefl 0)
/-- The arrivals are owed at the highest level; -/
theorem above_recv (c : Dev nD) (k : Fin 3) : Above 2 (owesRecv c k) :=
  above_tally _ _ ⟨L_tc _ _, by dsimp only [lv]; rw [if_neg (dma_ne_bar _), if_pos ⟨k, rfl⟩]⟩

/-- What is owed during the transfers lies above the barrier and above every cell of the local copies. -/
def Owed (c : Dev nD) (O : CellTallies nD τ sig Unit) : Prop := O = 0 ∨ O = owe1 c ∨ O = owe2 c ∨ O = owe3 c

/-- so is all that is owed after the barrier. -/
theorem above_owed {c : Dev nD} {O : CellTallies nD τ sig Unit} (h : Owed c O) : Above 2 O := by
  have h1 := above_recv c 1
  have h2 := above_add h1 (above_recv c 2)
  rcases h with rfl | rfl | rfl | rfl
  · exact above_zero 2
  · exact h1
  · exact h2
  · exact above_add h2 (above_recv c 0)

omit [FloatOps F] in
/-- A core may wait on a cell of level at most 1 while it owes arrivals only. -/
theorem mayWait_low (c : Dev nD) (sm : SemLoc sig) (h : lv ((c : Thread nD τ), sm) () ≤ 1) {O : CellTallies nD τ sig Unit} (hO : Above 2 O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by rw [(hO g u hg).1]; exact Finset.mem_singleton_self _)
    (fun p hp => by rw [Finset.mem_singleton.mp hp]; exact h)
    (fun g u hg => by have := (hO g u hg).2; omega)

end Cert.Exchange
-- ==== Proof.Steps.lean ====
/-
# The steps of the exchange

One lemma per kind of step that another device takes part in, for every hop: the signal to a barrier, the wait on the own
barrier, the transfer of a block.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- No loop of the program needs a measure. -/
abbrev 𝒱₀ : Variants := Variants.none

variable {α : Type} {Q : α → sProp (MT nD τ sig Unit (Elt F) ℕ UU ℕ)} {kont : PUnit → Prog (TpuEff nD τ sig (Elt F) Λ₀ .tc) α}

/-- A signal to the barrier of `fwd k c`: it hands that device the slot of the own receive buffer which it will fill. -/
theorem wp_signal_hop (k : Fin 3) (c n : Dev nD) (hn : n = fwd k c) {κ : ℕ} (O : CellTallies nD τ sig Unit) (W : Waits sig Unit)
    (f : Buf (Elt F) ((recvM k.rev).view.loc (c : Thread nD τ))) :
    iprop(cellInv ER (exRd m) κ (barCell (fwd k c)) ∗ owes (c : Thread nD τ) (O + owesBar c k) W
        ∗ dutyTok ER (barCell (fwd k c)) 0 k.rev ∗ recvPts c k.rev f ∗ reached ER (recvCell c k.rev) 0 ∗ reached ER (barCell (fwd k c)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (n, Proc.tc) barS ((1#32 : BitVec 32)).toInt) kont) Q) := by
  subst hn
  iintro ⟨#HI, HO, Ht, Hp, #Hr, #Hb⟩ Hk
  iapply (Rounds.wp_signal 𝒱₀ ER (exRd m) (c : Thread nD τ) none (dst := (fwd k c : Thread nD τ)) (κ := κ)
      (d := k.rev) (by rw [duties_bar]; exact Finset.mem_univ _) ((amount_bar m (fwd k c) k.rev).trans (by decide)) () O rfl) $$ [HO Ht Hp]
  · isplitr; · iexact HI
    isplitl [HO]; · iexact HO
    isplitl [Ht]; · iexact Ht
    isplitl [Hp]
    · rw [payload_bar]; unfold barPay; rw [fwd_rev_fwd]
      isplitl [Hp]; · iexists f; iexact Hp
      iexact Hr
    iexact Hb
  iexact Hk

/-- The payloads of a whole barrier round. -/
theorem rest_bar (c : Dev nD) : bigSep ((exRd (F := F) m).duties (barCell c) 0 \ ∅) (fun d => (exRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl

/-- The wait for three units on the own barrier: every other device has handed over its slot. -/
theorem wp_wait_bar (c : Dev nD) {κ : ℕ} (O : CellTallies nD τ sig Unit) (hO : Above 2 O) (W : Waits sig Unit) :
    iprop(cellInv ER (exRd m) κ (barCell c) ∗ cred (tallyAt (barCell c) () 3) ∗ owes (c : Thread nD τ) O W ∗ levAts L lv ∗ atPos ER (barCell c) 0 ∅ 0)
      ⊢ iprop(((owes (c : Thread nD τ) O (insert (SemLoc.reg barS, ()) W) ∗ atPos ER (barCell c) 1 ∅ 0 ∗ barPay c 0 ∗ barPay c 1 ∗ barPay c 2)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS ((3#32 : BitVec 32)).toInt.toNat) kont) Q) := by
  iintro ⟨#HI, Hc, HO, #Hlev, Hat⟩ Hk
  iapply (Rounds.wp_wait_rest_token 𝒱₀ ER (exRd m) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr
    · iapply (mayWait_low c _ (by dsimp only [lv]; rw [if_pos rfl]) hO); iexact Hlev
    iexact Hat
  rw [rest_bar]
  iintro ⟨HO, Hat, -, Hp⟩
  iapply Hk
  isplitl [HO]; · iexact HO
  isplitl [Hat]; · iexact Hat
  iexact Hp

/-- The transfer with hop `k`: the slot of the send buffer, holding what is due to `fwd k c`, goes to that device's slot. -/
theorem wp_send_hop (k : Fin 3) (c n : Dev nD) (hn : n = fwd k c) {κ₁ κ₂ : ℕ}
    {hsc : (recvM k : Memref sig (Dev.tc n : Thread nD τ).2.kind .vmem S1024x1024 .bf16).view.ref.isScScratch = false}
    {hsrc : (sendM k).view.WordExact} {hdst : (recvM k : Memref sig (Dev.tc n : Thread nD τ).2.kind .vmem S1024x1024 .bf16).view.WordExact}
    {hsem : DmaTarget.Typed .vmem (.dma (recvS k)) (.remote (Dev.tc n : Thread nD τ) (recvM k) (.dma (sendS k)) hsc)}
    (O : CellTallies nD τ sig Unit) (W : Waits sig Unit)
    (fs : Buf (Elt F) ((sendM k).view.loc (c : Thread nD τ))) (fd : Buf (Elt F) ((recvM k).view.loc (fwd k c : Thread nD τ))) :
    iprop(cellInv ER (exRd m) κ₁ (sendCell c k) ∗ cellInv ER (exRd m) κ₂ (recvCell (fwd k c) k) ∗ sendPts c k fs ∗ recvPts (fwd k c) k fd
        ∗ owes (c : Thread nD τ) (O + owesRecv c k) W
        ∗ dutyTok ER (sendCell c k) 0 0 ∗ reached ER (sendCell c k) 0 ∗ dutyTok ER (recvCell (fwd k c) k) 0 0 ∗ reached ER (recvCell (fwd k c) k) 0
        ∗ ⌜(sendM k).view.read (Elt F) fs = sent m c (fwd k c)⌝)
      ⊢ iprop(((cred (tallyAt (sendCell c k) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sendM k) (.remote (Dev.tc n : Thread nD τ) (recvM k) (.dma (sendS k)) hsc) (.dma (recvS k)) hsrc hdst hsem) kont) Q) := by
  subst hn
  iintro ⟨#HI, #HI', Hs, Hr, HO, Ts, #Rs, Tr, #Rr, %hfs⟩
  unfold sendPts recvPts
  iapply (Rounds.wp_send_pointsTo 𝒱₀ ER (exRd m) (c : Thread nD τ) none (κ₁ := κ₁) (κ₂ := κ₂)
    (r₁ := 0) (r₂ := 0) (d₁ := 0) (d₂ := 0) (fd := fd)
    (by rw [duties_send]; exact Finset.mem_singleton_self _) (by rw [duties_recv]; exact Finset.mem_singleton_self _)
    () () N rfl (amount_dma m c _ 0) (amount_dma m (fwd k c) _ 0) O rfl (W := W)
    (by rw [payload_send]; unfold sendPay sendPts; iintro H; iexists fs; iexact H)
    (by
      rw [payload_recv]; unfold recvPay recvPts; iintro H; iexists _; isplitl [H]; · iexact H
      ipureintro; rw [View.read_write_univ, hfs, bwd_fwd])) $$ [Hs Hr HO Ts Tr]
  isplitr; · iexact HI
  isplitr; · iexact HI'
  isplitl [Hs]; · iexact Hs
  isplitl [Hr]; · iexact Hr
  isplitl [HO]; · iexact HO
  isplitl [Ts]; · iexact Ts
  isplitr; · iexact Rs
  isplitl [Tr]; · iexact Tr
  iexact Rr

end Cert.Exchange
-- ==== Proof.Blocks.lean ====
/-
# The blocks and what is computed from them

The block of `w` that a phase multiplies by, the partial product of a phase, and the value of a column chunk of the result:
the four partial products added in the order of the phases. Then the reading lemmas: a copy into a buffer followed by a load
from it gives the block that was copied, and the chain of stores to a chunk of the accumulator gives the chunk's value.
-/
module

public import proofs.«01_k».proof.Proof.Steps
public import Idealize.ShloMosaic.Lib.Pipeline.Value
public import Idealize.ShloMosaic.Lib.VecWindow
public import Idealize.ShloMosaic.Lib.Pipeline.FrameBody

@[expose] public section

noncomputable section

namespace Cert.Exchange

open Cert.KernelIdeal Cert.KernelIdeal.Gen

open Idealize.ShloMosaic
open Idealize.ShloMosaic.TcCoe
open Idealize.SL Idealize.SL.RA Idealize.SL.BI

variable {F : FTy → Type} [FloatOps F]
variable (m : (ℓ : Loc nD τ sig) → Buf (Elt F) ℓ)

/-! ## Rectangles -/

/-- A column chunk lies inside the result. -/
theorem inb_chunk (j : Fin 8) : ∀ a, (![0, 1024 * j.val] : Fin 2 → ℕ) a + S1024x1024.size a ≤ S1024x8192.size a := by revert j; decide
/-- Column chunk `j` of the result and of the accumulator. -/
abbrev chunk (j : Fin 8) : Rect S1024x8192 := Rect.unit (s := S1024x8192) ![0, 1024 * j.val] S1024x1024.size (inb_chunk j)
/-- A slot of the double buffer lies inside it. -/
theorem inb_wslot (k : Fin 2) : ∀ a, (![k.val, 0, 0] : Fin 3 → ℕ) a + S1x1024x1024.size a ≤ S2x1024x1024.size a := by revert k; decide
/-- Slot `k` of the two slots that blocks of `w` are copied into. -/
abbrev wslot (k : Fin 2) : Rect S2x1024x1024 := Rect.unit (s := S2x1024x1024) ![k.val, 0, 0] S1x1024x1024.size (inb_wslot k)

/-- A block of `w` lies inside `w`. -/
theorem inb_wblk (p : Dev nD) (j : Fin 8) : ∀ a, (![1024 * p.val, 1024 * j.val] : Fin 2 → ℕ) a + S1024x1024.size a ≤ S4096x8192.size a := by
  revert p j; decide

/-! ## Values -/

/-- The block of device `c`'s copy of `w` in block row `p` and block column `j`. -/
def wBlk (c p : Dev nD) (j : Fin 8) : Vec F S1024x1024 .f32 :=
  ((Memref.whole main_arg1).slice (Rect.unit (s := S4096x8192) ![1024 * p.val, 1024 * j.val] S1024x1024.size (inb_wblk p j)) (fun _ => rfl)).view.read
    (Elt F) (m ((c : Thread nD τ).loc main_arg1))

/-- The partial product of one phase: a block of `x`, rounded already, times a block of `w`, rounded here. -/
def part (a : Vec F S1024x1024 .bf16) (b : Vec F S1024x1024 .f32) : Vec F S1024x1024 .f32 :=
  matmul dot_S1024x1024_S1024x1024_S1024x1024_1_0_0_1_n_n none a (truncf .bf16 b bitsLt_bf16_f32) (constant S1024x1024 .f32 0x00000000#32)

/-- Chunk `j` of device `c`'s result: the partial products of the own block and of those received with hops 0, 2 and 1. -/
def resChunk (c : Dev nD) (j : Fin 8) : Vec F S1024x1024 .f32 :=
  addf (addf (addf (part (sent m c c) (wBlk m c c j)) (part (sent m (bwd 0 c) c) (wBlk m c (bwd 0 c) j)))
    (part (sent m (bwd 2 c) c) (wBlk m c (bwd 2 c) j))) (part (sent m (bwd 1 c) c) (wBlk m c (bwd 1 c) j))

/-- What a load of `w` yields: the slot at `o` after the copy of the block at `off` into it. -/
abbrev wLoad (c : Dev nD) (o : Fin 3 → ℕ) (h : ∀ a, o a + S1x1024x1024.size a ≤ S2x1024x1024.size a)
    (hr : ∀ a, (Rect.unit (s := S2x1024x1024) o S1x1024x1024.size h).stride a = 1) (hq : S1x1024x1024.Squeezes S1024x1024) (f : cc0_scratch4.ty.Contents (Elt F))
    (off : Fin 2 → ℕ) (h' : ∀ a, off a + S1024x1024.size a ≤ S4096x8192.size a)
    (hr' : ∀ a, (Rect.unit (s := S4096x8192) off S1024x1024.size h').stride a = 1) : Vec F S1x1024x1024 .f32 :=
  (Memref.whole cc0_scratch4).view.readAt (Elt F) (Rect.unit (s := S2x1024x1024) o S1x1024x1024.size h).toLoadRect
    ((((Memref.whole cc0_scratch4).slice (Rect.unit (s := S2x1024x1024) o S1x1024x1024.size h) hr).squeeze S1024x1024 hq).view.write (Elt F) f
      (ReadAs.same.apply (((Memref.whole main_arg1).slice (Rect.unit (s := S4096x8192) off S1024x1024.size h') hr').view.read (Elt F)
        (m ((c : Thread nD τ).loc main_arg1)))) Finset.univ)

/-! ## Copies and loads -/

/-- The rows of `x` at an offset that comes to `1024 j`. -/
theorem read_x (c j : Dev nD) {off : Fin 2 → ℕ} {h : ∀ a, off a + S1024x1024.size a ≤ S4096x1024.size a} {hr}
    (ho : off = ![1024 * j.val, 0]) :
    ReadAs.same.apply (((Memref.whole main_arg0).slice (Rect.unit (s := S4096x1024) off S1024x1024.size h) hr).view.read (Elt F)
      (m ((c : Thread nD τ).loc main_arg0))) = xBlk m c j := by
  subst ho; rfl

/-- The block of `w` at an offset that comes to `1024 p, 1024 j`. -/
theorem read_w (c p : Dev nD) (j : Fin 8) {off : Fin 2 → ℕ} {h : ∀ a, off a + S1024x1024.size a ≤ S4096x8192.size a} {hr}
    (ho : off = ![1024 * p.val, 1024 * j.val]) :
    ReadAs.same.apply (((Memref.whole main_arg1).slice (Rect.unit (s := S4096x8192) off S1024x1024.size h) hr).view.read (Elt F)
      (m ((c : Thread nD τ).loc main_arg1))) = wBlk m c p j := by
  subst ho; rfl

/-- A load of the staging buffer after the rows of `x` for device `j` were copied into it. -/
theorem load_x {c : Dev nD} (j : Dev nD) {g : cc0_scratch0.ty.Contents (Elt F)} {off : Fin 2 → ℕ}
    {h : ∀ a, off a + S1024x1024.size a ≤ S4096x1024.size a} {hr} {h' : ∀ a, (![0, 0] : Fin 2 → ℕ) a + S1024x1024.size a ≤ S1024x1024.size a}
    (ho : off = ![1024 * j.val, 0]) :
    (Memref.whole cc0_scratch0).view.readAt (Elt F) (Rect.unit (s := S1024x1024) ![0, 0] S1024x1024.size h').toLoadRect
      ((Memref.whole cc0_scratch0).view.write (Elt F) g (ReadAs.same.apply (((Memref.whole main_arg0).slice
        (Rect.unit (s := S4096x1024) off S1024x1024.size h) hr).view.read (Elt F) (m ((c : Thread nD τ).loc main_arg0)))) Finset.univ) = xBlk m c j :=
  (View.readAt_full (Val := Elt F) (Memref.whole cc0_scratch0).view _ h').trans
    ((View.read_write_univ (Val := Elt F) (v := (Memref.whole cc0_scratch0).view) g _).trans (read_x m c j ho))

/-- The own block of `x` as it is loaded: copied into the staging buffer, rounded, stored and loaded again. -/
theorem load_own {c : Dev nD} {g : cc0_scratch0.ty.Contents (Elt F)} {off : Fin 2 → ℕ}
    {h : ∀ a, off a + S1024x1024.size a ≤ S4096x1024.size a} {hr} {h' h₀ : ∀ a, (![0, 0] : Fin 2 → ℕ) a + S1024x1024.size a ≤ S1024x1024.size a}
    {hs : S1024x1024.ShapeCasts S1024x1024} (ho : off = ![1024 * c.val, 0]) :
    (Memref.whole cc0_scratch1).view.readCov (Val := Elt F) [⟨Rect.unit (s := S1024x1024) ![0, 0] S1024x1024.size h₀, shapeCast S1024x1024 (truncf .bf16
      ((Memref.whole cc0_scratch0).view.readAt (Elt F) (Rect.unit (s := S1024x1024) ![0, 0] S1024x1024.size h').toLoadRect
        ((Memref.whole cc0_scratch0).view.write (Elt F) g (ReadAs.same.apply (((Memref.whole main_arg0).slice
          (Rect.unit (s := S4096x1024) off S1024x1024.size h) hr).view.read (Elt F) (m ((c : Thread nD τ).loc main_arg0)))) Finset.univ)) bitsLt_bf16_f32) hs⟩]
      (Rect.unit (s := S1024x1024) ![0, 0] S1024x1024.size h₀).toLoadRect = sent m c c :=
  (View.readCov_cons_toLoadRect (Val := Elt F) _ _ _ _).trans ((shapeCast_self _ _).trans
    (congrArg (fun v => truncf .bf16 v bitsLt_bf16_f32) (load_x m c ho)))

/-- A load of a slot for `w`, as a block, after a block was copied into it. -/
theorem load_w {c p : Dev nD} {j : Fin 8} {o : Fin 3 → ℕ} {h : ∀ a, o a + S1x1024x1024.size a ≤ S2x1024x1024.size a}
    {hr : ∀ a, (Rect.unit (s := S2x1024x1024) o S1x1024x1024.size h).stride a = 1} {hq : S1x1024x1024.Squeezes S1024x1024}
    {hc : S1x1024x1024.ShapeCasts S1024x1024} {f : cc0_scratch4.ty.Contents (Elt F)}
    {off : Fin 2 → ℕ} {h' : ∀ a, off a + S1024x1024.size a ≤ S4096x8192.size a}
    {hr' : ∀ a, (Rect.unit (s := S4096x8192) off S1024x1024.size h').stride a = 1} (ho : off = ![1024 * p.val, 1024 * j.val]) :
    shapeCast S1024x1024 (wLoad m c o h hr hq f off h' hr') hc = wBlk m c p j :=
  (Memref.read_squeeze_slice (Val := Elt F) (Memref.whole cc0_scratch4) (Rect.unit (s := S2x1024x1024) o S1x1024x1024.size h) hr hq hc _).symm.trans
    ((View.read_write_univ (Val := Elt F) (v := (((Memref.whole cc0_scratch4).slice (Rect.unit (s := S2x1024x1024) o S1x1024x1024.size h) hr).squeeze
      S1024x1024 hq).view) f _).trans (read_w m c p j ho))

/-- A slot of the send buffer after a block has been stored to it. -/
theorem read_sendM {k : Fin 3} {o : Fin 3 → ℕ} {h : ∀ a, o a + S1x1024x1024.size a ≤ S3x1024x1024.size a} (ho : o = ![k.val, 0, 0])
    {hc : S1024x1024.ShapeCasts S1x1024x1024} {f : cc0_scratch2.ty.Contents (Elt F)} {v : Vec F S1024x1024 .bf16} :
    (sendM k).view.read (Elt F) (((Memref.whole cc0_scratch2).access (Rect.unit (s := S3x1024x1024) o S1x1024x1024.size h)).write (Elt F) f
      (shapeCast S1x1024x1024 v hc) Finset.univ) = v := by
  subst ho
  refine (Memref.read_squeeze_slice (Val := Elt F) (Memref.whole cc0_scratch2) (Rect.unit (s := S3x1024x1024) ![k.val, 0, 0] S1x1024x1024.size _)
    (fun _ => rfl) squeezes_S1x1024x1024_S1024x1024 shapeCasts_S1x1024x1024_S1024x1024 _).trans ?_
  refine (congrArg (fun z => shapeCast S1024x1024 z shapeCasts_S1x1024x1024_S1024x1024) (View.read_write_univ (Val := Elt F)
    (v := (Memref.whole cc0_scratch2).access (Rect.unit (s := S3x1024x1024) ![k.val, 0, 0] S1x1024x1024.size h)) f _)).trans ?_
  exact shapeCast_shapeCast _ _ _

/-- One slot of the receive buffer as it is loaded. -/
theorem load_recv {k : Fin 3} {c : Dev nD} {o : Fin 3 → ℕ} {h : ∀ a, o a + S1x1024x1024.size a ≤ S3x1024x1024.size a} (ho : o = ![k.val, 0, 0])
    {hc : S1x1024x1024.ShapeCasts S1024x1024}
    {f : cc0_scratch3.ty.Contents (Elt F)} (hf : (recvM k).view.read (Elt F) f = sent m (bwd k c) c) :
    shapeCast S1024x1024 ((Memref.whole cc0_scratch3).view.readAt (Elt F) (Rect.unit (s := S3x1024x1024) o S1x1024x1024.size h).toLoadRect f) hc
      = sent m (bwd k c) c := by
  subst ho; exact hf

/-! ## A chunk of the result -/

/-- The chain of stores to one chunk of the accumulator, newest first, and the copy out of it: the value the chunk gets when
    the blocks of `x` are `a₀ … a₃` and the blocks of `w` are `b₀ … b₃`. -/
theorem chunk_chain {q : Fin 2 → ℕ} {h : ∀ a, q a + S1024x1024.size a ≤ S1024x8192.size a} {hr}
    {g : cc0_scratch5.ty.Contents (Elt F)} {hs : S1024x1024.ShapeCasts S1024x1024}
    (p₀ p₁ p₂ p₃ : Vec F S1024x1024 .f32) :
    let R : Rect S1024x8192 := Rect.unit (s := S1024x8192) q S1024x1024.size h
    let s₀ : Vec F S1024x1024 .f32 := shapeCast S1024x1024 p₀ hs
    let s₁ : Vec F S1024x1024 .f32 := shapeCast S1024x1024 (addf ((Memref.whole cc0_scratch5).view.readCov (Val := Elt F) [⟨R, s₀⟩] R.toLoadRect) p₁) hs
    let s₂ : Vec F S1024x1024 .f32 := shapeCast S1024x1024 (addf ((Memref.whole cc0_scratch5).view.readCov (Val := Elt F) [⟨R, s₁⟩, ⟨R, s₀⟩] R.toLoadRect) p₂) hs
    let s₃ : Vec F S1024x1024 .f32 := shapeCast S1024x1024 (addf ((Memref.whole cc0_scratch5).view.readCov (Val := Elt F) [⟨R, s₂⟩, ⟨R, s₁⟩, ⟨R, s₀⟩] R.toLoadRect) p₃) hs
    ReadAs.same.apply (((Memref.whole cc0_scratch5).slice R hr).view.read (Elt F)
      ((Memref.whole cc0_scratch5).view.writes (Elt F) g [⟨R, s₃⟩, ⟨R, s₂⟩, ⟨R, s₁⟩, ⟨R, s₀⟩])) = addf (addf (addf p₀ p₁) p₂) p₃ := by
  intro R s₀ s₁ s₂ s₃
  have e₀ : s₀ = p₀ := shapeCast_self _ _
  have e₁ : s₁ = addf p₀ p₁ := (shapeCast_self _ _).trans (congrArg (fun z => addf z p₁) ((View.readCov_cons_toLoadRect _ _ _ _).trans e₀))
  have e₂ : s₂ = addf (addf p₀ p₁) p₂ := (shapeCast_self _ _).trans (congrArg (fun z => addf z p₂) ((View.readCov_cons_toLoadRect _ _ _ _).trans e₁))
  have e₃ : s₃ = addf (addf (addf p₀ p₁) p₂) p₃ :=
    (shapeCast_self _ _).trans (congrArg (fun z => addf z p₃) ((View.readCov_cons_toLoadRect _ _ _ _).trans e₂))
  exact (View.read_write_univ (Val := Elt F) (v := ((Memref.whole cc0_scratch5).slice R hr).view) _ s₃).trans e₃

/-- The same for what the body computes: given what its loads yield, the copy out of the accumulator is `resChunk m c j`. -/
theorem chunk_value {c : Dev nD} {j : Fin 8} {q : Fin 2 → ℕ} {h : ∀ a, q a + S1024x1024.size a ≤ S1024x8192.size a} {hr}
    {g : cc0_scratch5.ty.Contents (Elt F)} {hs : S1024x1024.ShapeCasts S1024x1024} {hc : S1x1024x1024.ShapeCasts S1024x1024}
    {a₀ a₁ a₂ a₃ : Vec F S1024x1024 .bf16} {b₀ b₁ b₂ b₃ : Vec F S1x1024x1024 .f32}
    (ha₀ : a₀ = sent m c c) (hb₀ : shapeCast S1024x1024 b₀ hc = wBlk m c c j)
    (ha₁ : a₁ = sent m (bwd 0 c) c) (hb₁ : shapeCast S1024x1024 b₁ hc = wBlk m c (bwd 0 c) j)
    (ha₂ : a₂ = sent m (bwd 2 c) c) (hb₂ : shapeCast S1024x1024 b₂ hc = wBlk m c (bwd 2 c) j)
    (ha₃ : a₃ = sent m (bwd 1 c) c) (hb₃ : shapeCast S1024x1024 b₃ hc = wBlk m c (bwd 1 c) j) :
    let R : Rect S1024x8192 := Rect.unit (s := S1024x8192) q S1024x1024.size h
    let p₀ : Vec F S1024x1024 .f32 := part a₀ (shapeCast S1024x1024 b₀ hc)
    let p₁ : Vec F S1024x1024 .f32 := part a₁ (shapeCast S1024x1024 b₁ hc)
    let p₂ : Vec F S1024x1024 .f32 := part a₂ (shapeCast S1024x1024 b₂ hc)
    let p₃ : Vec F S1024x1024 .f32 := part a₃ (shapeCast S1024x1024 b₃ hc)
    let s₀ : Vec F S1024x1024 .f32 := shapeCast S1024x1024 p₀ hs
    let s₁ : Vec F S1024x1024 .f32 := shapeCast S1024x1024 (addf ((Memref.whole cc0_scratch5).view.readCov (Val := Elt F) [⟨R, s₀⟩] R.toLoadRect) p₁) hs
    let s₂ : Vec F S1024x1024 .f32 := shapeCast S1024x1024 (addf ((Memref.whole cc0_scratch5).view.readCov (Val := Elt F) [⟨R, s₁⟩, ⟨R, s₀⟩] R.toLoadRect) p₂) hs
    let s₃ : Vec F S1024x1024 .f32 := shapeCast S1024x1024 (addf ((Memref.whole cc0_scratch5).view.readCov (Val := Elt F) [⟨R, s₂⟩, ⟨R, s₁⟩, ⟨R, s₀⟩] R.toLoadRect) p₃) hs
    ReadAs.same.apply (((Memref.whole cc0_scratch5).slice R hr).view.read (Elt F)
      ((Memref.whole cc0_scratch5).view.writes (Elt F) g [⟨R, s₃⟩, ⟨R, s₂⟩, ⟨R, s₁⟩, ⟨R, s₀⟩])) = resChunk m c j := by
  intro R p₀ p₁ p₂ p₃ s₀ s₁ s₂ s₃
  refine (chunk_chain p₀ p₁ p₂ p₃).trans ?_
  unfold resChunk
  rw [← ha₀, ← ha₁, ← ha₂, ← ha₃, ← hb₀, ← hb₁, ← hb₂, ← hb₃]

/-! ## The offsets the body computes -/

/-- Rows of `x`: those for `fwd k c`, and the own ones. -/
theorem off_x (c : Dev nD) (k : Fin 3) : k0_off3 c (BitVec.ofNat 32 (k.val + 1)) = ![1024 * (fwd k c).val, 0] := by revert c k; decide
/-- The rows of `x` that a device keeps start at its own number of blocks. -/
theorem off_own (c : Dev nD) : k0_off4 c = ![1024 * c.val, 0] := by revert c; decide

/-- Blocks of `w` of the first phase, by chunk. -/
theorem off_w0 (c : Dev nD) : k0_off1 c = ![1024 * c.val, 1024 * 0] ∧ k0_off2 c = ![1024 * c.val, 1024 * 1]
    ∧ k0_off5 c = ![1024 * c.val, 1024 * 2] ∧ k0_off6 c = ![1024 * c.val, 1024 * 3] ∧ k0_off7 c = ![1024 * c.val, 1024 * 4]
    ∧ k0_off8 c = ![1024 * c.val, 1024 * 5] ∧ k0_off9 c = ![1024 * c.val, 1024 * 6] ∧ k0_off10 c = ![1024 * c.val, 1024 * 7] := by
  revert c; decide

/-- Blocks of `w` of the phase of hop `k`, by chunk. -/
theorem off_w (c : Dev nD) (k : Fin 3) :
    let u := BitVec.ofNat 32 (3 - k.val)
    let r := 1024 * (bwd k c).val
    k0_off11 c u = ![r, 1024 * 0] ∧ k0_off12 c u = ![r, 1024 * 1] ∧ k0_off13 c u = ![r, 1024 * 2] ∧ k0_off14 c u = ![r, 1024 * 3]
      ∧ k0_off15 c u = ![r, 1024 * 4] ∧ k0_off16 c u = ![r, 1024 * 5] ∧ k0_off17 c u = ![r, 1024 * 6] ∧ k0_off18 c u = ![r, 1024 * 7] := by
  revert c k; decide

end Cert.Exchange
-- ==== Proof.Body.lean ====
/-
# One device's run of the kernel body

The body is taken through from its three signals to its last wait. Before: the ghost state of the exchange, the operands and
every buffer cut into the pieces that are copied or stored separately. After: every semaphore back at zero, and each column chunk of the result holding `resChunk`.
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The kernel's body as the program runs it. -/
abbrev body : Prog (TpuEff nD τ sig (Elt F) Λ₀ .tc) PUnit :=
  cc0_body (Memref.whole main_arg0) (Memref.isWhole_whole _) (Memref.whole main_arg1) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10

/-- Buffer `b` of device `c`, whole, at contents `X`. -/
abbrev whole (c : Dev nD) (b : Ref sig .tc) (X : b.ty.Contents (Elt F)) : sProp 𝕄 := (Memref.whole b).view.loc (c : Thread nD τ) ↦{fullShare} X

/-- The read share of the second operand that the local copies on DMA cell `i` draw from. -/
abbrev wTok (c : Dev nD) (i : ℕ) (X : main_arg1.ty.Contents (Elt F)) : sProp 𝕄 :=
  (Memref.whole main_arg1).view.loc (c : Thread nD τ) ↦{Transfers.shareTokN fullShare i} X

/-- Column chunk `j` of device `c`'s result, of its accumulator; slot `k` of its two slots for `w`. -/
abbrev outPts (c : Dev nD) (j : Fin 8) (f : Buf (Elt F) ((Memref.whole main_v1).view.loc (c : Thread nD τ))) : sProp 𝕄 :=
  (Memref.whole main_v1).view.loc (c : Thread nD τ) ↦[(Memref.whole main_v1).view.setOn (chunk j).set]{fullShare} f
/-- Chunk `j` of the accumulator. -/
abbrev accPts (c : Dev nD) (j : Fin 8) (f : Buf (Elt F) ((Memref.whole cc0_scratch5).view.loc (c : Thread nD τ))) : sProp 𝕄 :=
  (Memref.whole cc0_scratch5).view.loc (c : Thread nD τ) ↦[(Memref.whole cc0_scratch5).view.setOn (chunk j).set]{fullShare} f
/-- Slot `k` of the double buffer of `w`. -/
abbrev wPts (c : Dev nD) (k : Fin 2) (f : Buf (Elt F) ((Memref.whole cc0_scratch4).view.loc (c : Thread nD τ))) : sProp 𝕄 :=
  (Memref.whole cc0_scratch4).view.loc (c : Thread nD τ) ↦[(Memref.whole cc0_scratch4).view.setOn (wslot k).set]{fullShare} f

/-- The names of the cells' invariants: by device, and 0 for the barrier, `1 + k` for departure, `4 + k` for arrival with hop `k`. -/
abbrev Names : Type := Dev nD × Fin 7 → ℕ

/-- The invariants that device `c`'s body opens: of its own cells, of the barriers it signals and of the arrivals it causes. -/
def invs (K : Names) (c : Dev nD) : sProp 𝕄 :=
  iprop(cellInv ER (exRd m) (K (c, 0)) (barCell c)
    ∗ cellInv ER (exRd m) (K (c, 1)) (sendCell c 0) ∗ cellInv ER (exRd m) (K (c, 2)) (sendCell c 1) ∗ cellInv ER (exRd m) (K (c, 3)) (sendCell c 2)
    ∗ cellInv ER (exRd m) (K (c, 4)) (recvCell c 0) ∗ cellInv ER (exRd m) (K (c, 5)) (recvCell c 1) ∗ cellInv ER (exRd m) (K (c, 6)) (recvCell c 2)
    ∗ cellInv ER (exRd m) (K (fwd 0 c, 0)) (barCell (fwd 0 c)) ∗ cellInv ER (exRd m) (K (fwd 1 c, 0)) (barCell (fwd 1 c))
    ∗ cellInv ER (exRd m) (K (fwd 2 c, 0)) (barCell (fwd 2 c))
    ∗ cellInv ER (exRd m) (K (fwd 0 c, 4)) (recvCell (fwd 0 c) 0) ∗ cellInv ER (exRd m) (K (fwd 1 c, 5)) (recvCell (fwd 1 c) 1)
    ∗ cellInv ER (exRd m) (K (fwd 2 c, 6)) (recvCell (fwd 2 c) 2))

instance invs_persistent (K : Names) (c : Dev nD) : BI.Persistent (invs m K c) := by unfold invs; infer_instance

/-- Per hop: the reached-marks and the tokens device `c` pays with. -/
def hopTok (c : Dev nD) (k : Fin 3) : sProp 𝕄 :=
  iprop(atPos ER (sendCell c k) 0 ∅ 0 ∗ atPos ER (recvCell c k) 0 ∅ 0
    ∗ reached ER (barCell (fwd k c)) 0 ∗ reached ER (sendCell c k) 0 ∗ reached ER (recvCell c k) 0
    ∗ dutyTok ER (barCell (fwd k c)) 0 k.rev ∗ dutyTok ER (sendCell c k) 0 0 ∗ dutyTok ER (recvCell (fwd k c) k) 0 0
    ∗ cred (tallyAt (recvCell c k) () N))

/-- The cells of the local copies are at level 0. -/
theorem lv_local (c : Dev nD) (q : DmaSem sig) (hq : 6 ≤ q.val) : lv ((c : Thread nD τ), .dma q) () ≤ 1 := by
  have h : ¬ ∃ k, (SemLoc.dma q : SemLoc sig) = .dma (recvS k) := by
    rintro ⟨k, hk⟩
    have : ∀ (k : Fin 3) (q : DmaSem sig), 6 ≤ q.val → (SemLoc.dma q : SemLoc sig) ≠ .dma (recvS k) := by decide
    exact this k q hq hk
  dsimp only [lv]; rw [if_neg (dma_ne_bar _), if_neg h]; exact Nat.zero_le 1

omit [FloatOps F] in
/-- A core may wait on a cell of its local copies whatever it owes during the transfers. -/
theorem mayWait_local (c : Dev nD) (q : DmaSem sig) (hq : 6 ≤ q.val) {O : CellTallies nD τ sig Unit} (hO : Owed c O) :
    (levAts L lv : sProp 𝕄) ⊢ MayWait (c : Thread nD τ) (.dma q) () O := mayWait_low c _ (lv_local c q hq) (above_owed hO)

/-- What the round of an arrival pays out, and that of a departure. -/
theorem recv_open (c : Dev nD) (k : Fin 3) :
    bigSep ((exRd (F := F) m).duties (recvCell c k) 0) (fun d => (exRd (F := F) m).payload (recvCell c k) 0 d)
      ⊢ iprop(∃ f, ((recvM k).view.loc (c : Thread nD τ) ↦[(recvM k).view.set]{fullShare} f) ∗ ⌜(recvM k).view.read (Elt F) f = sent m (bwd k c) c⌝) := by
  rw [duties_recv, bigSep_singleton, payload_recv]; unfold recvPay recvPts; exact .rfl

/-- A transfer that has been waited for gives back its slot of the send buffer. -/
theorem send_open (c : Dev nD) (k : Fin 3) :
    bigSep ((exRd (F := F) m).duties (sendCell c k) 0) (fun d => (exRd (F := F) m).payload (sendCell c k) 0 d)
      ⊢ iprop(∃ f, (sendM k).view.loc (c : Thread nD τ) ↦[(sendM k).view.set]{fullShare} f) := by
  rw [duties_send, bigSep_singleton, payload_send]; unfold sendPay sendPts; exact .rfl

/-- Column chunk `j` of the result, holding what it should. -/
def outDone (c : Dev nD) (j : Fin 8) : sProp 𝕄 :=
  iprop(∃ f, outPts c j f ∗ ⌜((Memref.whole main_v1).slice (chunk j) (fun _ => rfl)).view.read (Elt F) f = resChunk m c j⌝)

/-- A chunk that its value was copied into holds that value. -/
theorem read_copied (c : Dev nD) (j : Fin 8) {g : main_v1.ty.Contents (Elt F)} {v : Vec F S1024x1024 .f32} (hv : v = resChunk m c j) :
    ((Memref.whole main_v1).slice (chunk j) (fun _ => rfl)).view.read (Elt F) ((Memref.whole main_v1).view.writes (Elt F) g [⟨chunk j, v⟩])
      = resChunk m c j :=
  (View.read_write_univ (Val := Elt F) (v := ((Memref.whole main_v1).slice (chunk j) (fun _ => rfl)).view) g v).trans hv

/-- The ghost state and the semaphores that the body of device `c` starts from. -/
def ghostIn (K : Names) (c : Dev nD) (W : Waits sig Unit) : sProp 𝕄 :=
  iprop(invs m K c ∗ levAts L lv ∗ owes (c : Thread nD τ) (O₀ c) W
      ∗ (atPos ER (barCell c) 0 ∅ 0 ∗ cred (tallyAt (barCell c) () 3) ∗ hopTok c 0 ∗ hopTok c 1 ∗ hopTok c 2)
      ∗ semVal ((c : Thread nD τ), .dma 6) 0 ∗ semVal ((c : Thread nD τ), .dma 7) 0 ∗ semVal ((c : Thread nD τ), .dma 8) 0
      ∗ semVal ((c : Thread nD τ), .dma 9) 0 ∗ semVal ((c : Thread nD τ), .dma 10) 0)

/-- What it ends with: nothing owed, every semaphore at zero. -/
def ghostOut (c : Dev nD) : sProp 𝕄 :=
  iprop((∃ W, owes (c : Thread nD τ) 0 W) ∗ semVal (barCell c) 0
      ∗ (semVal (sendCell c 0) 0 ∗ semVal (sendCell c 1) 0 ∗ semVal (sendCell c 2) 0)
      ∗ (semVal (recvCell c 0) 0 ∗ semVal (recvCell c 1) 0 ∗ semVal (recvCell c 2) 0)
      ∗ semVal ((c : Thread nD τ), .dma 6) 0 ∗ semVal ((c : Thread nD τ), .dma 7) 0 ∗ semVal ((c : Thread nD τ), .dma 8) 0
      ∗ semVal ((c : Thread nD τ), .dma 9) 0 ∗ semVal ((c : Thread nD τ), .dma 10) 0)

/-- After its one round a cell is closed: its counter is at zero and the core's again. -/
theorem close_cell {κ : ℕ} (g : GSem nD τ sig) :
    iprop(cellInv ER (exRd m) κ g ∗ atPos ER g 1 ∅ 0) ⊢ (iprop(|={Set.univ}=> semVal g 0) : sProp 𝕄) :=
  Rounds.cell_close ER (exRd m) (Set.mem_univ κ) (fun h => h) (R := 1) (duties_later m g)

/-- The scratch buffers at any contents, in the pieces the body uses. -/
def scratch (c : Dev nD) : sProp 𝕄 :=
  iprop((∃ f, whole c cc0_scratch0 f) ∗ (∃ f, whole c cc0_scratch1 f)
      ∗ ((∃ f, sendPts c 0 f) ∗ (∃ f, sendPts c 1 f) ∗ ∃ f, sendPts c 2 f)
      ∗ ((∃ f, recvPts c 0 f) ∗ (∃ f, recvPts c 1 f) ∗ ∃ f, recvPts c 2 f)
      ∗ ((∃ f, wPts c 0 f) ∗ ∃ f, wPts c 1 f)
      ∗ (∃ f, accPts c 0 f) ∗ (∃ f, accPts c 1 f) ∗ (∃ f, accPts c 2 f) ∗ (∃ f, accPts c 3 f)
      ∗ (∃ f, accPts c 4 f) ∗ (∃ f, accPts c 5 f) ∗ (∃ f, accPts c 6 f) ∗ ∃ f, accPts c 7 f)

/-- The operands: `x`, and the two read shares of `w` that the copies of its blocks draw from. -/
def operands (c : Dev nD) : sProp 𝕄 :=
  iprop(whole c main_arg0 (m ((c : Thread nD τ).loc main_arg0)) ∗ wTok c 6 (m ((c : Thread nD τ).loc main_arg1))
      ∗ wTok c 7 (m ((c : Thread nD τ).loc main_arg1)))

/-- The result's chunks at any contents. -/
def outIn (c : Dev nD) : sProp 𝕄 :=
  iprop((∃ f, outPts c 0 f) ∗ (∃ f, outPts c 1 f) ∗ (∃ f, outPts c 2 f) ∗ (∃ f, outPts c 3 f)
      ∗ (∃ f, outPts c 4 f) ∗ (∃ f, outPts c 5 f) ∗ (∃ f, outPts c 6 f) ∗ ∃ f, outPts c 7 f)

set_option maxHeartbeats 4000000 in
/-- The body's run. -/
theorem body_run (K : Names) (c : Dev nD) (W : Waits sig Unit) (Q : PUnit → sProp (MT nD τ sig Unit (Elt F) ℕ UU ℕ)) :
    iprop(ghostIn m K c W ∗ operands m c ∗ scratch c ∗ outIn c
        ∗ ((ghostOut c ∗ operands m c ∗ scratch c ∗ outDone m c 0 ∗ outDone m c 1 ∗ outDone m c 2 ∗ outDone m c 3
            ∗ outDone m c 4 ∗ outDone m c 5 ∗ outDone m c 6 ∗ outDone m c 7) -∗ Q ⟨⟩))
      ⊢ wp frame (wpE (defs₀ (F := F)) 𝒱₀ c none) Set.univ body Q := by
  unfold ghostIn operands scratch outIn invs hopTok
  have ho3 : Owed c (owe3 c) := .inr (.inr (.inr rfl))
  have ho2 : Owed c (owe2 c) := .inr (.inr (.inl rfl))
  have ho1 : Owed c (owe1 c) := .inr (.inl rfl)
  have h6 := fun O h => mayWait_local (F := F) (O := O) c 6 (by decide) h
  have h7 := fun O h => mayWait_local (F := F) (O := O) c 7 (by decide) h
  have h8 := fun O h => mayWait_local (F := F) (O := O) c 8 (by decide) h
  iintro ⟨⟨⟨#Ib, #Is0, #Is1, #Is2, #Ir0, #Ir1, #Ir2, #Ib0, #Ib1, #Ib2, #Jr0, #Jr1, #Jr2⟩, #Hlev, HO,
      ⟨HatB, HcB, ⟨HaS0, HaR0, #Rb0, #Rs0, #Rr0, Tb0, Ts0, Tr0, Cr0⟩, ⟨HaS1, HaR1, #Rb1, #Rs1, #Rr1, Tb1, Ts1, Tr1, Cr1⟩,
        ⟨HaS2, HaR2, #Rb2, #Rs2, #Rr2, Tb2, Ts2, Tr2, Cr2⟩⟩, Hw6, Hw7, Hst8, Ho9, Ho10⟩,
    ⟨Hx, Hwt6, Hwt7⟩,
    ⟨⟨%fs, Hstg⟩, ⟨%fa, Hab⟩, ⟨⟨%fx0, Hs0⟩, ⟨%fx1, Hs1⟩, %fx2, Hs2⟩, ⟨⟨%fr0, Hr0⟩, ⟨%fr1, Hr1⟩, %fr2, Hr2⟩, ⟨⟨%fw0, Hwb0⟩, %fw1, Hwb1⟩,
      ⟨%g0, Ha0⟩, ⟨%g1, Ha1⟩, ⟨%g2, Ha2⟩, ⟨%g3, Ha3⟩, ⟨%g4, Ha4⟩, ⟨%g5, Ha5⟩, ⟨%g6, Ha6⟩, %g7, Ha7⟩,
    ⟨⟨%u0, Hv0⟩, ⟨%u1, Hv1⟩, ⟨%u2, Hv2⟩, ⟨%u3, Hv3⟩, ⟨%u4, Hv4⟩, ⟨%u5, Hv5⟩, ⟨%u6, Hv6⟩, %u7, Hv7⟩, HQ⟩
  unfold body
  simp only [cc0_body_eq_skeleton]; unfold cc0_body_skel
  -- the three signals
  sl_exec
  iapply (wp_signal_hop m 0 c _ (dev1_eq c) (owe3 c + owesBar c 2 + owesBar c 1) W fr2) $$ [HO Tb0 Hr2]
  · isplitr; · iexact Ib0
    isplitl [HO]; · iexact HO
    isplitl [Tb0]; · iexact Tb0
    isplitl [Hr2]; · iexact Hr2
    isplitr; · iexact Rr2
    iexact Rb0
  iintro HO
  sl_exec
  iapply (wp_signal_hop m 1 c _ (dev2_eq c) (owe3 c + owesBar c 2) W fr1) $$ [HO Tb1 Hr1]
  · isplitr; · iexact Ib1
    isplitl [HO]; · iexact HO
    isplitl [Tb1]; · iexact Tb1
    isplitl [Hr1]; · iexact Hr1
    isplitr; · iexact Rr1
    iexact Rb1
  iintro HO
  sl_exec
  iapply (wp_signal_hop m 2 c _ (dev3_eq c) (owe3 c) W fr0) $$ [HO Tb2 Hr0]
  · isplitr; · iexact Ib2
    isplitl [HO]; · iexact HO
    isplitl [Tb2]; · iexact Tb2
    isplitl [Hr0]; · iexact Hr0
    isplitr; · iexact Rr0
    iexact Rb2
  iintro HO
  sl_exec
  -- the wait on the own barrier
  iapply (wp_wait_bar m c (κ := K (c, 0)) (owe3 c) (above_owed (.inr (.inr (.inr rfl)))) W) $$ [HcB HO HatB]
  · isplitr; · iexact Ib
    isplitl [HcB]; · iexact HcB
    isplitl [HO]; · iexact HO
    isplitr; · iexact Hlev
    iexact HatB
  unfold barPay
  iintro ⟨HO, HatB, ⟨⟨%e0, He0⟩, #Q0⟩, ⟨⟨%e1, He1⟩, #Q1⟩, ⟨%e2, He2⟩, #Q2⟩
  unfold sendPts
  sl_exec
  -- the transfer with hop 0
  iapply (wp_send_hop m 0 c _ (dev4_eq c) (κ₁ := K (c, 1)) (κ₂ := K (fwd 0 c, 4)) (owe2 c) _ _ e0) $$ [Hs0 He0 HO Ts0 Tr0]
  · isplitr; · iexact Is0
    isplitr; · iexact Jr0
    isplitl [Hs0]; · unfold sendPts; iexact Hs0
    isplitl [He0]; · iexact He0
    isplitl [HO]; · iexact HO
    isplitl [Ts0]; · iexact Ts0
    isplitr; · iexact Rs0
    isplitl [Tr0]; · iexact Tr0
    isplitr; · iexact Q0
    ipureintro
    exact (read_sendM rfl).trans (congrArg (fun v => truncf .bf16 v bitsLt_bf16_f32) (load_x m (fwd 0 c) (off_x c 0)))
  iintro ⟨Cs0, HO⟩
  sl_exec
  -- the transfer with hop 2
  iapply (wp_send_hop m 2 c _ (dev5_eq c) (κ₁ := K (c, 3)) (κ₂ := K (fwd 2 c, 6)) (owe1 c) _ _ e2) $$ [Hs2 He2 HO Ts2 Tr2]
  · isplitr; · iexact Is2
    isplitr; · iexact Jr2
    isplitl [Hs2]; · unfold sendPts; iexact Hs2
    isplitl [He2]; · iexact He2
    isplitl [HO]; · iexact HO
    isplitl [Ts2]; · iexact Ts2
    isplitr; · iexact Rs2
    isplitl [Tr2]; · iexact Tr2
    isplitr; · iexact Q2
    ipureintro
    exact (read_sendM rfl).trans (congrArg (fun v => truncf .bf16 v bitsLt_bf16_f32) (load_x m (fwd 2 c) (off_x c 2)))
  iintro ⟨Cs2, HO⟩
  sl_exec
  -- the transfer with hop 1
  rw [show owe1 c = 0 + owesRecv c 1 from (zero_add _).symm]
  iapply (wp_send_hop m 1 c _ (dev6_eq c) (κ₁ := K (c, 2)) (κ₂ := K (fwd 1 c, 5)) (0) _ _ e1) $$ [Hs1 He1 HO Ts1 Tr1]
  · isplitr; · iexact Is1
    isplitr; · iexact Jr1
    isplitl [Hs1]; · unfold sendPts; iexact Hs1
    isplitl [He1]; · iexact He1
    isplitl [HO]; · iexact HO
    isplitl [Ts1]; · iexact Ts1
    isplitr; · iexact Rs1
    isplitl [Tr1]; · iexact Tr1
    isplitr; · iexact Q1
    ipureintro
    exact (read_sendM rfl).trans (congrArg (fun v => truncf .bf16 v bitsLt_bf16_f32) (load_x m (fwd 1 c) (off_x c 1)))
  iintro ⟨Cs1, HO⟩
  sl_exec
  ihave H := (recv_open m c 0) $$ HaR0_pay1
  icases H with ⟨%f0, Hr0, %hr0⟩
  sl_exec
  ihave H := (recv_open m c 2) $$ HaR2_pay1
  icases H with ⟨%f2, Hr2, %hr2⟩
  sl_exec
  ihave H := (recv_open m c 1) $$ HaR1_pay1
  icases H with ⟨%f1, Hr1, %hr1⟩
  sl_exec
  -- every cell closes
  imod (close_cell m (barCell c)) $$ [HatB] with HzB
  · isplitr; · iexact Ib
    iexact HatB
  imod (close_cell m (sendCell c 0)) $$ [HaS0] with HzS0
  · isplitr; · iexact Is0
    iexact HaS0
  imod (close_cell m (sendCell c 1)) $$ [HaS1] with HzS1
  · isplitr; · iexact Is1
    iexact HaS1
  imod (close_cell m (sendCell c 2)) $$ [HaS2] with HzS2
  · isplitr; · iexact Is2
    iexact HaS2
  imod (close_cell m (recvCell c 0)) $$ [HaR0] with HzR0
  · isplitr; · iexact Ir0
    iexact HaR0
  imod (close_cell m (recvCell c 1)) $$ [HaR1] with HzR1
  · isplitr; · iexact Ir1
    iexact HaR1
  imod (close_cell m (recvCell c 2)) $$ [HaR2] with HzR2
  · isplitr; · iexact Ir2
    iexact HaR2
  ihave Hsend0 := (send_open m c 0) $$ HaS0_pay1
  ihave Hsend1 := (send_open m c 1) $$ HaS1_pay1
  ihave Hsend2 := (send_open m c 2) $$ HaS2_pay1
  rw [wp_ret]; imodintro
  iapply HQ
  unfold ghostOut outDone
  isplitl [HO HzB HzS0 HzS1 HzS2 HzR0 HzR1 HzR2 Hw6 Hw7 Hst8 Ho9 Ho10]
  · isplitl [HO]; · iexists _; iexact HO
    isplitl [HzB]; · iexact HzB
    isplitl [HzS0 HzS1 HzS2]
    · isplitl [HzS0]; · iexact HzS0
      isplitl [HzS1] <;> iassumption
    isplitl [HzR0 HzR1 HzR2]
    · isplitl [HzR0]; · iexact HzR0
      isplitl [HzR1] <;> iassumption
    isplitl [Hw6]; · iexact Hw6
    isplitl [Hw7]; · iexact Hw7
    isplitl [Hst8]; · iexact Hst8
    isplitl [Ho9]; · iexact Ho9
    iexact Ho10
  isplitl [Hx Hwt6 Hwt7]
  · isplitl [Hx]; · iexact Hx
    isplitl [Hwt6]; · iexact Hwt6
    iexact Hwt7
  isplitl [Hstg Hab Hsend0 Hsend1 Hsend2 Hr0 Hr1 Hr2 Hwb0 Hwb1 Ha0 Ha1 Ha2 Ha3 Ha4 Ha5 Ha6 Ha7]
  · isplitl [Hstg]; · iexists _; iexact Hstg
    isplitl [Hab]; · iexists _; iexact Hab
    isplitl [Hsend0 Hsend1 Hsend2]
    · isplitl [Hsend0]; · iexact Hsend0
      isplitl [Hsend1]; · iexact Hsend1
      iexact Hsend2
    isplitl [Hr0 Hr1 Hr2]
    · unfold recvPts
      isplitl [Hr0]; · iexists _; iexact Hr0
      isplitl [Hr1]; · iexists _; iexact Hr1
      iexists _; iexact Hr2
    isplitl [Hwb0 Hwb1]
    · isplitl [Hwb0]; · iexists _; iexact Hwb0
      iexists _; iexact Hwb1
    isplitl [Ha0]; · iexists _; iexact Ha0
    isplitl [Ha1]; · iexists _; iexact Ha1
    isplitl [Ha2]; · iexists _; iexact Ha2
    isplitl [Ha3]; · iexists _; iexact Ha3
    isplitl [Ha4]; · iexists _; iexact Ha4
    isplitl [Ha5]; · iexists _; iexact Ha5
    isplitl [Ha6]; · iexists _; iexact Ha6
    iexists _; iexact Ha7
  isplitl [Hv0]
  · iexists _
    isplitl [Hv0]; · iexact Hv0
    ipureintro
    exact read_copied m c 0 (chunk_value m (load_own m (off_own c)) (load_w m (off_w0 c).1)
      (load_recv m rfl hr0) (load_w m (off_w c 0).1) (load_recv m rfl hr2) (load_w m (off_w c 2).1) (load_recv m rfl hr1) (load_w m (off_w c 1).1))
  isplitl [Hv1]
  · iexists _
    isplitl [Hv1]; · iexact Hv1
    ipureintro
    exact read_copied m c 1 (chunk_value m (load_own m (off_own c)) (load_w m (off_w0 c).2.1)
      (load_recv m rfl hr0) (load_w m (off_w c 0).2.1) (load_recv m rfl hr2) (load_w m (off_w c 2).2.1) (load_recv m rfl hr1) (load_w m (off_w c 1).2.1))
  isplitl [Hv2]
  · iexists _
    isplitl [Hv2]; · iexact Hv2
    ipureintro
    exact read_copied m c 2 (chunk_value m (load_own m (off_own c)) (load_w m (off_w0 c).2.2.1)
      (load_recv m rfl hr0) (load_w m (off_w c 0).2.2.1) (load_recv m rfl hr2) (load_w m (off_w c 2).2.2.1) (load_recv m rfl hr1) (load_w m (off_w c 1).2.2.1))
  isplitl [Hv3]
  · iexists _
    isplitl [Hv3]; · iexact Hv3
    ipureintro
    exact read_copied m c 3 (chunk_value m (load_own m (off_own c)) (load_w m (off_w0 c).2.2.2.1)
      (load_recv m rfl hr0) (load_w m (off_w c 0).2.2.2.1) (load_recv m rfl hr2) (load_w m (off_w c 2).2.2.2.1) (load_recv m rfl hr1) (load_w m (off_w c 1).2.2.2.1))
  isplitl [Hv4]
  · iexists _
    isplitl [Hv4]; · iexact Hv4
    ipureintro
    exact read_copied m c 4 (chunk_value m (load_own m (off_own c)) (load_w m (off_w0 c).2.2.2.2.1)
      (load_recv m rfl hr0) (load_w m (off_w c 0).2.2.2.2.1) (load_recv m rfl hr2) (load_w m (off_w c 2).2.2.2.2.1) (load_recv m rfl hr1) (load_w m (off_w c 1).2.2.2.2.1))
  isplitl [Hv5]
  · iexists _
    isplitl [Hv5]; · iexact Hv5
    ipureintro
    exact read_copied m c 5 (chunk_value m (load_own m (off_own c)) (load_w m (off_w0 c).2.2.2.2.2.1)
      (load_recv m rfl hr0) (load_w m (off_w c 0).2.2.2.2.2.1) (load_recv m rfl hr2) (load_w m (off_w c 2).2.2.2.2.2.1) (load_recv m rfl hr1) (load_w m (off_w c 1).2.2.2.2.2.1))
  isplitl [Hv6]
  · iexists _
    isplitl [Hv6]; · iexact Hv6
    ipureintro
    exact read_copied m c 6 (chunk_value m (load_own m (off_own c)) (load_w m (off_w0 c).2.2.2.2.2.2.1)
      (load_recv m rfl hr0) (load_w m (off_w c 0).2.2.2.2.2.2.1) (load_recv m rfl hr2) (load_w m (off_w c 2).2.2.2.2.2.2.1) (load_recv m rfl hr1) (load_w m (off_w c 1).2.2.2.2.2.2.1))
  iexists _
  isplitl [Hv7]; · iexact Hv7
  ipureintro
  exact read_copied m c 7 (chunk_value m (load_own m (off_own c)) (load_w m (off_w0 c).2.2.2.2.2.2.2)
    (load_recv m rfl hr0) (load_w m (off_w c 0).2.2.2.2.2.2.2) (load_recv m rfl hr2) (load_w m (off_w c 2).2.2.2.2.2.2.2) (load_recv m rfl hr1) (load_w m (off_w c 1).2.2.2.2.2.2.2))

end Cert.Exchange
-- ==== Proof.Buffers.lean ====
/-
# The buffers cut into pieces

The body uses each slot of a buffer, and each column chunk of the accumulator and of the result, separately. Here the pieces
of one buffer are shown to be disjoint and to cover it, so a buffer held whole is its pieces and the pieces make it whole again.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## Any buffer, any pieces -/

/-- A buffer at some contents is its pieces, each at some contents; -/
theorem cut {ℓ : Loc nD τ sig} {n : ℕ} (I : Fin n → Finset (Idx ℓ)) (hd : ∀ b b', b ≠ b' → Disjoint (I b) (I b'))
    (hc : Finset.univ.biUnion I = Finset.univ) :
    iprop(∃ f, ℓ ↦{fullShare} f) ⊢ (bigSep Finset.univ fun b => iprop(∃ f, ℓ ↦[I b]{fullShare} f) : sProp 𝕄) := by
  iintro ⟨%f, H⟩
  iapply ((Entails.of_eq (Ring.pointsTo_blocks I hd hc f)).trans (bigSep_mono fun b _ =>
    show (ℓ ↦[I b]{fullShare} f) ⊢ iprop(∃ f, ℓ ↦[I b]{fullShare} f) from by iintro H; iexists f; iexact H))
  iexact H

/-- and the pieces make the buffer. -/
theorem glue {ℓ : Loc nD τ sig} {n : ℕ} (I : Fin n → Finset (Idx ℓ)) (hd : ∀ b b', b ≠ b' → Disjoint (I b) (I b'))
    (hc : Finset.univ.biUnion I = Finset.univ) :
    (bigSep Finset.univ fun b => iprop(∃ f, ℓ ↦[I b]{fullShare} f) : sProp 𝕄) ⊢ iprop(∃ f, ℓ ↦{fullShare} f) :=
  Ring.pointsTo_blocks_join_exists I hd hc fun _ => Classical.choice inferInstance

omit [FloatOps F] in
/-- A product over two indices, written out. -/
theorem list2 (Φ : Fin 2 → sProp 𝕄) : bigSep Finset.univ Φ = iprop(Φ 0 ∗ Φ 1) :=
  bigSep_univ_eq_bigSepL [0, 1] (by decide) (by decide) Φ
omit [FloatOps F] in
/-- A product over three indices, written out. -/
theorem list3 (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A product over eight indices, written out. -/
theorem list8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The pieces of this kernel's buffers -/

/-- The rectangle of slot `k` of a buffer of three. -/
abbrev slot3 (k : Fin 3) : Rect S3x1024x1024 := Rect.unit (s := S3x1024x1024) ![k.val, 0, 0] S1x1024x1024.size (inb_slot3 k)

/-- Different slots of the exchange buffers are disjoint; -/
theorem slot3_disjoint (k k' : Fin 3) (h : k ≠ k') : Disjoint (slot3 k).set (slot3 k').set :=
  Ring.lead_disjoint (s := S3x1024x1024) 0 1 (fun k : Fin 3 => ![k.val, 0, 0]) S1x1024x1024.size inb_slot3 (fun k => (Nat.one_mul _).symm) rfl k k' h
/-- together they are the buffer. -/
theorem slot3_cover : Finset.univ.biUnion (fun k => (slot3 k).set) = Finset.univ :=
  Ring.lead_cover (s := S3x1024x1024) 0 1 (fun k : Fin 3 => ![k.val, 0, 0]) S1x1024x1024.size inb_slot3 (fun k => (Nat.one_mul _).symm)
    (by decide) rfl (by decide) rfl
/-- Different slots of the double buffer are disjoint; -/
theorem wslot_disjoint (k k' : Fin 2) (h : k ≠ k') : Disjoint (wslot k).set (wslot k').set :=
  Ring.lead_disjoint (s := S2x1024x1024) 0 1 (fun k : Fin 2 => ![k.val, 0, 0]) S1x1024x1024.size inb_wslot (fun k => (Nat.one_mul _).symm) rfl k k' h
/-- together they are the buffer. -/
theorem wslot_cover : Finset.univ.biUnion (fun k => (wslot k).set) = Finset.univ :=
  Ring.lead_cover (s := S2x1024x1024) 0 1 (fun k : Fin 2 => ![k.val, 0, 0]) S1x1024x1024.size inb_wslot (fun k => (Nat.one_mul _).symm)
    (by decide) rfl (by decide) rfl
/-- Different column chunks are disjoint; -/
theorem chunk_disjoint (j j' : Fin 8) (h : j ≠ j') : Disjoint (chunk j).set (chunk j').set :=
  Ring.lead_disjoint (s := S1024x8192) 1 1024 (fun j : Fin 8 => ![0, 1024 * j.val]) S1024x1024.size inb_chunk (fun _ => rfl) rfl j j' h
/-- together they are all columns. -/
theorem chunk_cover : Finset.univ.biUnion (fun j => (chunk j).set) = Finset.univ :=
  Ring.lead_cover (s := S1024x8192) 1 1024 (fun j : Fin 8 => ![0, 1024 * j.val]) S1024x1024.size inb_chunk (fun _ => rfl)
    (by decide) rfl (by decide) rfl

/-- The elements of a rectangle of a whole buffer are the rectangle's. -/
theorem setOn_rect (b : Ref sig .tc) (r : Rect b.ty.shape) : (Memref.whole b).view.setOn r.set = r.set :=
  (View.set_slice (View.whole b) r).symm.trans (View.set_slice_whole b r)
/-- A slot of the send buffer has the elements of its rectangle; -/
theorem set_sendM (k : Fin 3) : (sendM k).view.set = (slot3 k).set := (View.set_reshape _ _).trans (View.set_slice_whole _ _)
/-- so has one of the receive buffer. -/
theorem set_recvM (k : Fin 3) : (recvM k).view.set = (slot3 k).set := (View.set_reshape _ _).trans (View.set_slice_whole _ _)

/-- The send buffer is its slots. -/
theorem send_pieces (c : Dev nD) (k : Fin 3) :
    (iprop(∃ f, ((c : Thread nD τ).loc cc0_scratch2) ↦[(slot3 k).set]{fullShare} f) : sProp 𝕄) = iprop(∃ f, sendPts (F := F) c k f) := by
  unfold sendPts; rw [set_sendM]
/-- The receive buffer is its slots. -/
theorem recv_pieces (c : Dev nD) (k : Fin 3) :
    (iprop(∃ f, ((c : Thread nD τ).loc cc0_scratch3) ↦[(slot3 k).set]{fullShare} f) : sProp 𝕄) = iprop(∃ f, recvPts (F := F) c k f) := by
  unfold recvPts; rw [set_recvM]
/-- The buffer for blocks of `w` is its slots. -/
theorem w_pieces (c : Dev nD) (k : Fin 2) :
    (iprop(∃ f, ((c : Thread nD τ).loc cc0_scratch4) ↦[(wslot k).set]{fullShare} f) : sProp 𝕄) = iprop(∃ f, wPts (F := F) c k f) := by
  unfold wPts; rw [setOn_rect]
/-- The accumulator is its chunks. -/
theorem acc_pieces (c : Dev nD) (j : Fin 8) :
    (iprop(∃ f, ((c : Thread nD τ).loc cc0_scratch5) ↦[(chunk j).set]{fullShare} f) : sProp 𝕄) = iprop(∃ f, accPts (F := F) c j f) := by
  unfold accPts; rw [setOn_rect]
/-- The result is its chunks. -/
theorem out_pieces (c : Dev nD) (j : Fin 8) :
    (iprop(∃ f, ((c : Thread nD τ).loc main_v1) ↦[(chunk j).set]{fullShare} f) : sProp 𝕄) = iprop(∃ f, outPts (F := F) c j f) := by
  unfold outPts; rw [setOn_rect]

/-- The send buffer is its three slots; -/
theorem cut_send (c : Dev nD) : iprop(∃ f, ((c : Thread nD τ).loc cc0_scratch2) ↦{fullShare} f)
    ⊢ (iprop((∃ f, sendPts c 0 f) ∗ (∃ f, sendPts c 1 f) ∗ ∃ f, sendPts c 2 f) : sProp 𝕄) := by
  refine (cut (ℓ := (c : Thread nD τ).loc cc0_scratch2) (fun k => (slot3 k).set) slot3_disjoint slot3_cover).trans (Entails.of_eq ?_)
  rw [bigSep_congr fun k _ => send_pieces c k, list3]
/-- and the slots are the buffer again. -/
theorem glue_send (c : Dev nD) : (iprop((∃ f, sendPts c 0 f) ∗ (∃ f, sendPts c 1 f) ∗ ∃ f, sendPts c 2 f) : sProp 𝕄)
    ⊢ iprop(∃ f, ((c : Thread nD τ).loc cc0_scratch2) ↦{fullShare} f) := by
  refine Entails.trans (Entails.of_eq ?_) (glue (ℓ := (c : Thread nD τ).loc cc0_scratch2) (fun k => (slot3 k).set) slot3_disjoint slot3_cover)
  rw [bigSep_congr fun k _ => send_pieces c k, list3]
/-- The receive buffer is its three slots; -/
theorem cut_recv (c : Dev nD) : iprop(∃ f, ((c : Thread nD τ).loc cc0_scratch3) ↦{fullShare} f)
    ⊢ (iprop((∃ f, recvPts c 0 f) ∗ (∃ f, recvPts c 1 f) ∗ ∃ f, recvPts c 2 f) : sProp 𝕄) := by
  refine (cut (ℓ := (c : Thread nD τ).loc cc0_scratch3) (fun k => (slot3 k).set) slot3_disjoint slot3_cover).trans (Entails.of_eq ?_)
  rw [bigSep_congr fun k _ => recv_pieces c k, list3]
/-- and the slots are the buffer again. -/
theorem glue_recv (c : Dev nD) : (iprop((∃ f, recvPts c 0 f) ∗ (∃ f, recvPts c 1 f) ∗ ∃ f, recvPts c 2 f) : sProp 𝕄)
    ⊢ iprop(∃ f, ((c : Thread nD τ).loc cc0_scratch3) ↦{fullShare} f) := by
  refine Entails.trans (Entails.of_eq ?_) (glue (ℓ := (c : Thread nD τ).loc cc0_scratch3) (fun k => (slot3 k).set) slot3_disjoint slot3_cover)
  rw [bigSep_congr fun k _ => recv_pieces c k, list3]
/-- The double buffer is its two slots; -/
theorem cut_w (c : Dev nD) : iprop(∃ f, ((c : Thread nD τ).loc cc0_scratch4) ↦{fullShare} f)
    ⊢ (iprop((∃ f, wPts c 0 f) ∗ ∃ f, wPts c 1 f) : sProp 𝕄) := by
  refine (cut (ℓ := (c : Thread nD τ).loc cc0_scratch4) (fun k => (wslot k).set) wslot_disjoint wslot_cover).trans (Entails.of_eq ?_)
  rw [bigSep_congr fun k _ => w_pieces c k, list2]
/-- and the slots are the buffer again. -/
theorem glue_w (c : Dev nD) : (iprop((∃ f, wPts c 0 f) ∗ ∃ f, wPts c 1 f) : sProp 𝕄)
    ⊢ iprop(∃ f, ((c : Thread nD τ).loc cc0_scratch4) ↦{fullShare} f) := by
  refine Entails.trans (Entails.of_eq ?_) (glue (ℓ := (c : Thread nD τ).loc cc0_scratch4) (fun k => (wslot k).set) wslot_disjoint wslot_cover)
  rw [bigSep_congr fun k _ => w_pieces c k, list2]
/-- The accumulator is its eight chunks; -/
theorem cut_acc (c : Dev nD) : iprop(∃ f, ((c : Thread nD τ).loc cc0_scratch5) ↦{fullShare} f)
    ⊢ (iprop((∃ f, accPts c 0 f) ∗ (∃ f, accPts c 1 f) ∗ (∃ f, accPts c 2 f) ∗ (∃ f, accPts c 3 f)
      ∗ (∃ f, accPts c 4 f) ∗ (∃ f, accPts c 5 f) ∗ (∃ f, accPts c 6 f) ∗ ∃ f, accPts c 7 f) : sProp 𝕄) := by
  refine (cut (ℓ := (c : Thread nD τ).loc cc0_scratch5) (fun j => (chunk j).set) chunk_disjoint chunk_cover).trans (Entails.of_eq ?_)
  rw [bigSep_congr fun j _ => acc_pieces c j, list8]
/-- and the chunks are the buffer again. -/
theorem glue_acc (c : Dev nD) : (iprop((∃ f, accPts c 0 f) ∗ (∃ f, accPts c 1 f) ∗ (∃ f, accPts c 2 f) ∗ (∃ f, accPts c 3 f)
      ∗ (∃ f, accPts c 4 f) ∗ (∃ f, accPts c 5 f) ∗ (∃ f, accPts c 6 f) ∗ ∃ f, accPts c 7 f) : sProp 𝕄)
    ⊢ iprop(∃ f, ((c : Thread nD τ).loc cc0_scratch5) ↦{fullShare} f) := by
  refine Entails.trans (Entails.of_eq ?_) (glue (ℓ := (c : Thread nD τ).loc cc0_scratch5) (fun j => (chunk j).set) chunk_disjoint chunk_cover)
  rw [bigSep_congr fun j _ => acc_pieces c j, list8]

/-- The result, whole, is its chunks. -/
theorem cut_out (c : Dev nD) : iprop(∃ f, ((c : Thread nD τ).loc main_v1) ↦{fullShare} f) ⊢ (outIn (F := F) c : sProp 𝕄) := by
  refine (cut (ℓ := (c : Thread nD τ).loc main_v1) (fun j => (chunk j).set) chunk_disjoint chunk_cover).trans (Entails.of_eq ?_)
  rw [bigSep_congr fun j _ => out_pieces c j, list8]; rfl

/-- The scratch buffers, whole, are the pieces the body uses; -/
theorem cut_scratch (c : Dev nD) : (Pipeline.scopedRest cfg0.spec c : sProp 𝕄) ⊢ scratch c := by
  rw [scopedRest0_eq]; unfold scratch
  iintro ⟨H0, H1, H2, H3, H4, H5⟩
  isplitl [H0]; · iexact H0
  isplitl [H1]; · iexact H1
  isplitl [H2]; · iapply (cut_send (F := F) c); iexact H2
  isplitl [H3]; · iapply (cut_recv (F := F) c); iexact H3
  isplitl [H4]; · iapply (cut_w (F := F) c); iexact H4
  iapply (cut_acc (F := F) c); iexact H5

/-- and back. -/
theorem glue_scratch (c : Dev nD) : scratch c ⊢ (Pipeline.scopedRest cfg0.spec c : sProp 𝕄) := by
  rw [scopedRest0_eq]; unfold scratch
  iintro ⟨H0, H1, H2, H3, H4, H5⟩
  isplitl [H0]; · iexact H0
  isplitl [H1]; · iexact H1
  isplitl [H2]; · iapply (glue_send (F := F) c); iexact H2
  isplitl [H3]; · iapply (glue_recv (F := F) c); iexact H3
  isplitl [H4]; · iapply (glue_w (F := F) c); iexact H4
  iapply (glue_acc (F := F) c); iexact H5

/-- The second operand, whole, has the two read shares that the copies draw from. -/
theorem deal_w (c : Dev nD) (X : main_arg1.ty.Contents (Elt F)) :
    (((c : Thread nD τ).loc main_arg1) ↦{fullShare} X : sProp 𝕄) ⊢ iprop(wTok c 6 X ∗ wTok c 7 X) := by
  have h : bigSep ({6, 7} : Finset ℕ) (fun i => (((c : Thread nD τ).loc main_arg1) ↦{Transfers.shareTokN fullShare i} X : sProp 𝕄))
      = iprop(wTok c 6 X ∗ wTok c 7 X) := by
    rw [bigSep_insert (by decide), bigSep_singleton]; rfl
  rw [← h]
  exact (Transfers.pointsTo_toks_range fullShare 8).1.trans (sep_elim_right.trans (bigSep_subset (by decide)))

end Cert.Exchange
-- ==== Proof.Deal.lean ====
/-
# What the launch deals to the devices

The ghost state of the exchange is made once for the whole mesh: a round per cell, and a token per duty. Every device keeps
its own positions; the tokens go to the devices that pay the duties. The credit of a cell is what all devices together owe it.
-/
module

public import proofs.«01_k».proof.Proof.Buffers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Cells and tokens -/

/-- The seven cells of a device that take part in the exchange, in the order of `Names`. -/
abbrev csem : Fin 7 → SemLoc sig
  | 0 => .reg barS | 1 => .dma (sendS 0) | 2 => .dma (sendS 1) | 3 => .dma (sendS 2)
  | 4 => .dma (recvS 0) | 5 => .dma (recvS 1) | 6 => .dma (recvS 2)
/-- A cell of the exchange, by device and kind. -/
abbrev kcell (ck : Dev nD × Fin 7) : GSem nD τ sig := ((ck.1 : Thread nD τ), csem ck.2)

/-- The seven kinds are different semaphores. -/
theorem csem_injective : Function.Injective csem := by decide
/-- A cell tells its device. -/
theorem dev_of_cell {c c' : Dev nD} {s s' : SemLoc sig} (h : (((c : Thread nD τ), s) : GSem nD τ sig) = ((c' : Thread nD τ), s')) : c = c' :=
  congrArg (fun g : GSem nD τ sig => g.1.1) h
/-- Different device or kind, different cell. -/
theorem kcell_injective : Function.Injective kcell := fun _ _ h =>
  Prod.ext (dev_of_cell h) (csem_injective (congrArg Prod.snd h))
/-- All cells of the exchange. -/
def exCells : Finset (GSem nD τ sig) := Finset.univ.map ⟨kcell, kcell_injective⟩

/-- A device's own duties, per hop `k`: unit `k` of its barrier, its departure and its arrival with hop `k`. -/
abbrev tokOf (x : (Dev nD × Fin 3) × Fin 3) : GSem nD τ sig × ℕ × Fin 3 :=
  match x.2 with
  | 0 => (barCell x.1.1, 0, x.1.2) | 1 => (sendCell x.1.1 x.1.2, 0, 0) | 2 => (recvCell x.1.1 x.1.2, 0, 0)
/-- Different duties have different tokens. -/
theorem tokOf_injective : Function.Injective tokOf := by
  have hloc : Function.Injective fun y : Fin 3 × Fin 3 => ((tokOf (((0 : Dev nD), y.1), y.2)).1.2, (tokOf (((0 : Dev nD), y.1), y.2)).2.2) := by
    decide
  rintro ⟨⟨c, k⟩, i⟩ ⟨⟨c', k'⟩, i'⟩ h
  have hc : c = c' := by
    have := congrArg (fun x : GSem nD τ sig × ℕ × Fin 3 => x.1.1.1) h
    fin_cases i <;> fin_cases i' <;> exact this
  subst hc
  have hki : (k, i) = (k', i') := hloc (by
    have := congrArg (fun x : GSem nD τ sig × ℕ × Fin 3 => (x.1.2, x.2.2)) h
    fin_cases i <;> fin_cases i' <;> exact this)
  obtain ⟨rfl, rfl⟩ := Prod.mk.inj hki; rfl
/-- All tokens of the exchange. -/
def exToks : Finset (GSem nD τ sig × ℕ × Fin 3) := Finset.univ.map ⟨tokOf, tokOf_injective⟩

/-- The launch element: the region's own part, the exchange's rounds, no counter in use. -/
def u₀ : UU :=
  (initOf (Pipeline.cells cfgs cellOf_inj) (Pipeline.launchToks cfgs cellOf_inj), (initOf exCells exToks, 1))

omit [FloatOps F] in
/-- The starting resources are the launch's part and the tokens. -/
theorem ownU_parts (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of hop `k` of device `c`'s own cells; -/
def toks (c : Dev nD) (k : Fin 3) : sProp 𝕄 :=
  iprop(dutyTok ER (barCell c) 0 k ∗ dutyTok ER (sendCell c k) 0 0 ∗ dutyTok ER (recvCell c k) 0 0)
/-- those device `c` pays with: the barrier of `fwd k c` counts `c` as `rev k`, being that far ahead of it. -/
def payToks (c : Dev nD) (k : Fin 3) : sProp 𝕄 :=
  iprop(dutyTok ER (barCell (fwd k c)) 0 k.rev ∗ dutyTok ER (sendCell c k) 0 0 ∗ dutyTok ER (recvCell (fwd k c) k) 0 0)

/-- Device `c`'s places: at the start of every one of its cells. -/
def places (c : Dev nD) : sProp 𝕄 := bigSep Finset.univ fun k : Fin 7 => atPos ER (kcell (c, k)) 0 ∅ 0

/-- The semaphores of the local copies, at zero. -/
def localSems (c : Dev nD) : sProp 𝕄 :=
  iprop(semVal ((c : Thread nD τ), .dma 6) 0 ∗ semVal ((c : Thread nD τ), .dma 7) 0 ∗ semVal ((c : Thread nD τ), .dma 8) 0
      ∗ semVal ((c : Thread nD τ), .dma 9) 0 ∗ semVal ((c : Thread nD τ), .dma 10) 0)

/-- What the launch element deals device `c`. -/
def G (c : Dev nD) : sProp 𝕄 :=
  iprop((bigSep Finset.univ fun k : Fin 7 => roundState ER (exRd m) (kcell (c, k)) 0)
    ∗ (bigSep Finset.univ fun k : Fin 7 => reached ER (kcell (c, k)) 0) ∗ places c ∗ bigSep Finset.univ fun k : Fin 3 => toks c k)

/-- The tokens, dealt device by device. -/
theorem deal : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => bigSep Finset.univ fun k : Fin 3 => toks c k := by
    unfold exToks; rw [bigSep_map, bigSep_univ_prod, bigSep_univ_prod]
    exact bigSep_congr fun c _ => bigSep_congr fun k _ => by unfold toks; rw [list3]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold G places; simp only [bigSep_sep']
  isplitl [Hst']; · iexact Hst'
  isplitl [Hr']; · iexact Hr'
  isplitl [Hat']; · iexact Hat'
  iexact Htok'

/-! ## The semaphores at zero -/

/-- The semaphores of the kernel: three for departures, three for arrivals, five for the local copies. -/
abbrev osem : Fin 11 → SemLoc sig := fun k => .dma k
/-- The kernel's own semaphores are scoped and different. -/
theorem ownSemFacts : Pipeline.OwnSemFacts cfg0.spec osem := by decide

omit [FloatOps F] in
/-- They are at zero at launch, written out. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ localSems c) := by
  rw [Pipeline.ownSems0_eq_of_list c osem [0, 1, 2, 3, 4, 5, 6, 7, 8, 9, 10] (by decide) (by decide)]; rfl

omit [FloatOps F] in
/-- The barrier is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A product over seven indices, written out. -/
theorem list7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The semaphores of the exchange at zero, taken out of a device's. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ localSems c) : sProp 𝕄) := by
  rw [ownSems0_eq, unscopedSems0_eq, list7]
  iintro ⟨⟨H1, H2, H3, H4, H5, H6, HL⟩, HB⟩
  isplitr [HL]
  · isplitl [HB]; · iexact HB
    isplitl [H1]; · iexact H1
    isplitl [H2]; · iexact H2
    isplitl [H3]; · iexact H3
    isplitl [H4]; · iexact H4
    isplitl [H5] <;> iassumption
  iexact HL

/-! ## The invariants are allocated and the tokens dealt round -/

/-- A device's cells at zero and their rounds at the start become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 7 => iprop(∃ κ : ℕ, cellInv ER (exRd m) κ (kcell (c, k))))
          ∗ (bigSep Finset.univ fun k : Fin 7 => reached ER (kcell (c, k)) 0) ∗ (bigSep Finset.univ fun k : Fin 3 => toks c k) ∗ places c ∗ localSems c) := by
  unfold G
  iintro ⟨Hos, Hus, Hst, Hr, Hat, Htok⟩
  ihave Hv := (sems0_eq (F := F) c) $$ [Hos Hus]
  · isplitl [Hos] <;> iassumption
  icases Hv with ⟨Hv, HL⟩
  imod (show iprop((bigSep Finset.univ fun k : Fin 7 => semVal (kcell (c, k)) 0) ∗ bigSep Finset.univ fun k : Fin 7 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- What everybody may know: the invariants under their names, and that every cell has reached its start. -/
def records (K : Names) : sProp 𝕄 :=
  iprop((bigSep Finset.univ fun ck : Dev nD × Fin 7 => cellInv ER (exRd m) (K ck) (kcell ck))
    ∗ bigSep Finset.univ fun ck : Dev nD × Fin 7 => reached ER (kcell ck) 0)

instance records_persistent (K : Names) : BI.Persistent (records m K) := by unfold records; infer_instance

/-- The record of a cell is its invariant; -/
theorem inv_at (K : Names) (ck : Dev nD × Fin 7) {g : GSem nD τ sig} (hg : kcell ck = g) :
    records m K ⊢ (cellInv ER (exRd m) (K ck) g : sProp 𝕄) := by
  subst hg; unfold records; exact sep_elim_left.trans (bigSep_elim (Finset.mem_univ ck))
/-- and its mark that the first round has begun. -/
theorem reached_at (K : Names) (ck : Dev nD × Fin 7) {g : GSem nD τ sig} (hg : kcell ck = g) :
    records m K ⊢ (reached ER g 0 : sProp 𝕄) := by
  subst hg; unfold records; exact sep_elim_right.trans (bigSep_elim (Finset.mem_univ ck))

/-- The marks of hop `k` of device `c`. -/
def marks (c : Dev nD) (k : Fin 3) : sProp 𝕄 :=
  iprop(reached ER (barCell (fwd k c)) 0 ∗ reached ER (sendCell c k) 0 ∗ reached ER (recvCell c k) 0)

/-- Everything device `c` starts from but its credit and its buffers. -/
def G' (c : Dev nD) : sProp 𝕄 :=
  iprop(∃ K, invs m K c ∗ (marks c 0 ∗ marks c 1 ∗ marks c 2) ∗ (payToks c 0 ∗ payToks c 1 ∗ payToks c 2) ∗ places c ∗ localSems c)

/-- What every device may know of the others. -/
theorem known (K : Names) (c : Dev nD) : records m K ⊢ (iprop(invs m K c ∗ marks c 0 ∗ marks c 1 ∗ marks c 2) : sProp 𝕄) := by
  unfold invs marks
  iintro #H
  isplitr
  · isplitr; · iapply (inv_at m K (c, 0) rfl); iexact H
    isplitr; · iapply (inv_at m K (c, 1) rfl); iexact H
    isplitr; · iapply (inv_at m K (c, 2) rfl); iexact H
    isplitr; · iapply (inv_at m K (c, 3) rfl); iexact H
    isplitr; · iapply (inv_at m K (c, 4) rfl); iexact H
    isplitr; · iapply (inv_at m K (c, 5) rfl); iexact H
    isplitr; · iapply (inv_at m K (c, 6) rfl); iexact H
    isplitr; · iapply (inv_at m K (fwd 0 c, 0) rfl); iexact H
    isplitr; · iapply (inv_at m K (fwd 1 c, 0) rfl); iexact H
    isplitr; · iapply (inv_at m K (fwd 2 c, 0) rfl); iexact H
    isplitr; · iapply (inv_at m K (fwd 0 c, 4) rfl); iexact H
    isplitr; · iapply (inv_at m K (fwd 1 c, 5) rfl); iexact H
    iapply (inv_at m K (fwd 2 c, 6) rfl); iexact H
  isplitr
  · isplitr; · iapply (reached_at m K (fwd 0 c, 0) rfl); iexact H
    isplitr; · iapply (reached_at m K (c, 1) rfl); iexact H
    iapply (reached_at m K (c, 4) rfl); iexact H
  isplitr
  · isplitr; · iapply (reached_at m K (fwd 1 c, 0) rfl); iexact H
    isplitr; · iapply (reached_at m K (c, 2) rfl); iexact H
    iapply (reached_at m K (c, 5) rfl); iexact H
  isplitr; · iapply (reached_at m K (fwd 2 c, 0) rfl); iexact H
  isplitr; · iapply (reached_at m K (c, 3) rfl); iexact H
  iapply (reached_at m K (c, 6) rfl); iexact H

/-- A device and a hop, and the receiver and the hop back. -/
def there : Dev nD × Fin 3 ≃ Dev nD × Fin 3 where
  toFun x := (fwd x.2 x.1, x.2.rev)
  invFun x := (fwd x.2 x.1, x.2.rev)
  left_inv x := Prod.ext (fwd_rev_fwd x.2 x.1) (Fin.rev_rev x.2)
  right_inv x := Prod.ext (fwd_rev_fwd x.2 x.1) (Fin.rev_rev x.2)
/-- A device and a hop, and the receiver and the same hop. -/
def over : Dev nD × Fin 3 ≃ Dev nD × Fin 3 where
  toFun x := (fwd x.2 x.1, x.2)
  invFun x := (bwd x.2 x.1, x.2)
  left_inv x := Prod.ext (bwd_fwd x.2 x.1) rfl
  right_inv x := Prod.ext (fwd_bwd x.2 x.1) rfl

/-- The tokens go from the cells' owners to the devices that pay. -/
theorem toks_round : (bigSep Finset.univ fun c : Dev nD => bigSep Finset.univ fun k : Fin 3 => (toks c k : sProp 𝕄))
    = bigSep Finset.univ fun c : Dev nD => bigSep Finset.univ fun k : Fin 3 => payToks c k := by
  rw [← bigSep_univ_prod (fun x : Dev nD × Fin 3 => (toks x.1 x.2 : sProp 𝕄)), ← bigSep_univ_prod (fun x : Dev nD × Fin 3 => (payToks x.1 x.2 : sProp 𝕄))]
  unfold toks payToks
  simp only [bigSep_sep']
  rw [bigSep_univ_equiv there (fun x : Dev nD × Fin 3 => (dutyTok ER (barCell x.1) 0 x.2 : sProp 𝕄)),
    bigSep_univ_equiv over (fun x : Dev nD × Fin 3 => (dutyTok ER (recvCell x.1 x.2) 0 0 : sProp 𝕄))]
  rfl

/-- The pieces, gathered device by device. -/
theorem regroup :
    (bigSep Finset.univ fun c : Dev nD => iprop((bigSep Finset.univ fun k : Fin 7 => iprop(∃ κ : ℕ, cellInv ER (exRd m) κ (kcell (c, k))))
          ∗ (bigSep Finset.univ fun k : Fin 7 => reached ER (kcell (c, k)) 0) ∗ (bigSep Finset.univ fun k : Fin 3 => toks c k) ∗ places c ∗ localSems c) : sProp 𝕄)
      ⊢ bigSep Finset.univ (G' m) := by
  rw [bigSep_sep', bigSep_sep', bigSep_sep', toks_round,
    ← bigSep_univ_prod (fun ck : Dev nD × Fin 7 => iprop(∃ κ : ℕ, cellInv ER (exRd m) κ (kcell ck))),
    ← bigSep_univ_prod (fun ck : Dev nD × Fin 7 => (reached ER (kcell ck) 0 : sProp 𝕄))]
  iintro ⟨HI, #HR, Hrest⟩
  ihave HK := (BI.bigSep_exists_pi Finset.univ (fun (ck : Dev nD × Fin 7) (κ : ℕ) => (cellInv ER (exRd m) κ (kcell ck) : sProp 𝕄))) $$ HI
  icases HK with ⟨%K, #HI⟩
  iapply (show iprop(records m K ∗ (bigSep Finset.univ fun c : Dev nD => iprop((bigSep Finset.univ fun k : Fin 3 => payToks c k) ∗ places c ∗ localSems c)))
      ⊢ bigSep Finset.univ (G' m) from
    (sep_mono_left (BI.bigSep_of_persistent Finset.univ (records m K))).trans (by
      rw [← bigSep_sep']
      refine bigSep_mono fun c _ => show _ ⊢ G' m c from ?_
      unfold G'; rw [list3]
      iintro ⟨#HR, Ht, Hp, Hl⟩
      iexists K
      ihave H := (known m K c) $$ HR
      icases H with ⟨Hi, Hm⟩
      isplitl [Hi]; · iexact Hi
      isplitl [Hm]; · iexact Hm
      isplitl [Ht]; · iexact Ht
      isplitl [Hp] <;> iassumption))
  isplitr
  · unfold records; isplitl; · iexact HI
    iexact HR
  · simp only [bigSep_sep']; iexact Hrest

/-- The one step over the whole mesh: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What is owed to cell `g` per hop, over all devices, when hop `k` owes `n` units to cell `s` of the receiver. -/
theorem owed_hop (k : Fin 3) (c : Dev nD) (s s' : SemLoc sig) (n : ℕ) :
    (∑ d : Dev nD, (tallyAt (((fwd k d : Dev nD) : Thread nD τ), s) () n : CellTallies nD τ sig Unit) ((c : Thread nD τ), s') ()) = if s' = s then n else 0 := by
  have h (d : Dev nD) : (tallyAt (((fwd k d : Dev nD) : Thread nD τ), s) () n : CellTallies nD τ sig Unit) ((c : Thread nD τ), s') ()
      = if d = bwd k c then (if s' = s then n else 0) else 0 := by
    rw [tallyAt_apply]
    by_cases hd : d = bwd k c
    · subst hd; rw [fwd_bwd, if_pos rfl]
      by_cases hs : s' = s
      · subst hs; rw [if_pos ⟨rfl, rfl⟩, if_pos rfl]
      · rw [if_neg hs, if_neg fun e => hs (congrArg Prod.snd e.1)]
    · rw [if_neg hd, if_neg fun e => hd (by rw [dev_of_cell e.1, bwd_fwd])]
  rw [Finset.sum_congr rfl fun d _ => h d, Finset.sum_ite_eq' Finset.univ (bwd k c) fun _ => _, if_pos (Finset.mem_univ _)]

/-- What all devices owe one cell of device `c`. -/
theorem owed_cell (c : Dev nD) (s : SemLoc sig) :
    (∑ d : Dev nD, O₀ d ((c : Thread nD τ), s) ()) = (if s = .dma (recvS 1) then N else 0) + (if s = .dma (recvS 2) then N else 0)
      + (if s = .dma (recvS 0) then N else 0) + (if s = .reg barS then 1 else 0) + (if s = .reg barS then 1 else 0) + (if s = .reg barS then 1 else 0) := by
  simp only [O₀, owe3, Pi.add_apply, Finsupp.add_apply, Finset.sum_add_distrib, owesRecv, owesBar, owed_hop]

/-- The credit of a cell is all that the devices owe it. -/
theorem launch_cell (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

/-- A barrier is owed three units; -/
theorem launch_bar (c : Dev nD) : (∑ d : Dev nD, O₀ d (barCell c) ()) = 3 := by
  rw [owed_cell]; simp only [if_neg (dma_ne_bar _).symm, if_true]
/-- an arrival is owed one block. -/
theorem launch_recv (c : Dev nD) (k : Fin 3) : (∑ d : Dev nD, O₀ d (recvCell c k) ()) = N := by
  rw [owed_cell]
  have h (j : Fin 3) : (SemLoc.dma (recvS k) : SemLoc sig) = .dma (recvS j) ↔ k = j := ⟨recvS_inj, fun e => e ▸ rfl⟩
  simp only [if_neg (dma_ne_bar _), h, Nat.add_zero]
  obtain rfl | rfl | rfl : k = 0 ∨ k = 1 ∨ k = 2 := by revert k; decide
  all_goals simp

/-- The launch's credit is the barrier's three units and one block per arrival. -/
theorem creds (c : Dev nD) :
    (Pipeline.launchCred O₀ c : sProp 𝕄) ⊢ iprop(cred (tallyAt (barCell c) () 3) ∗ cred (tallyAt (recvCell c 0) () N)
      ∗ cred (tallyAt (recvCell c 1) () N) ∗ cred (tallyAt (recvCell c 2) () N)) := by
  unfold Pipeline.launchCred
  refine (bigSep_subset (Finset.subset_univ {SemLoc.reg barS, .dma (recvS 0), .dma (recvS 1), .dma (recvS 2)})).trans ?_
  rw [bigSep_insert (by decide), bigSep_insert (by decide), bigSep_insert (by decide), bigSep_singleton,
    launch_cell c _ 3 (launch_bar c), launch_cell c _ N (launch_recv c 0), launch_cell c _ N (launch_recv c 1), launch_cell c _ N (launch_recv c 2)]
  exact Idealize.SL.BI.Entails.refl _

end Cert.Exchange
-- ==== Proof.Launch.lean ====
/-
# The run of the whole program

The region is launched on all four devices: what each starts from and ends with, the body's run between the two, and the
statement about the final memory: the operands unchanged, every semaphore at zero, and every column chunk of every device's
result holding `resChunk`.
-/
module

public import proofs.«01_k».proof.Proof.Deal

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ) (ρ : Dev nD → PrngReg)

/-! ## Before and after -/

/-- What device `c` starts from, besides its scratch buffers. -/
def start (c : Dev nD) : sProp 𝕄 :=
  iprop(G' m c ∗ (cred (tallyAt (barCell c) () 3) ∗ cred (tallyAt (recvCell c 0) () N) ∗ cred (tallyAt (recvCell c 1) () N) ∗ cred (tallyAt (recvCell c 2) () N))
    ∗ levAts L lv ∗ operands m c ∗ outIn (F := F) c)
/-- The condition before the body. -/
def Φ₀ (c : Dev nD) : sProp 𝕄 := iprop(start m c ∗ scratch c)

/-- The result's chunks, done. -/
def outAll (c : Dev nD) : sProp 𝕄 :=
  iprop(outDone m c 0 ∗ outDone m c 1 ∗ outDone m c 2 ∗ outDone m c 3 ∗ outDone m c 4 ∗ outDone m c 5 ∗ outDone m c 6 ∗ outDone m c 7)

/-- What it ends with that outlives the kernel. -/
def final (c : Dev nD) : sProp 𝕄 := iprop(unscopedSems0 c ∗ operands m c ∗ outAll m c)

/-- The condition after it. -/
def Φ₁ (c : Dev nD) : sProp 𝕄 :=
  iprop(final m c ∗ Pipeline.ownSems0 (Ix := Unit) (Name := ℕ) (U := UU) (Lvl := ℕ) (Val := Elt F) (τ := τ) osem c ∗ scratch c)

/-- The region stages nothing, so its data is the two conditions and what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The parts of `start` in the order of `ghostIn`. -/
theorem ghost_in (c : Dev nD) (W : Waits sig Unit) :
    iprop(G' m c ∗ (cred (tallyAt (barCell c) () 3) ∗ cred (tallyAt (recvCell c 0) () N) ∗ cred (tallyAt (recvCell c 1) () N) ∗ cred (tallyAt (recvCell c 2) () N))
      ∗ levAts L lv ∗ owes (c : Thread nD τ) (O₀ c) W) ⊢ (iprop(∃ K, ghostIn m K c W) : sProp 𝕄) := by
  unfold G' marks payToks places localSems ghostIn hopTok
  rw [list7]
  iintro ⟨⟨%K, Hi, ⟨⟨Mb0, Ms0, Mr0⟩, ⟨Mb1, Ms1, Mr1⟩, Mb2, Ms2, Mr2⟩, ⟨⟨Tb0, Ts0, Tr0⟩, ⟨Tb1, Ts1, Tr1⟩, Tb2, Ts2, Tr2⟩,
    ⟨Pb, Ps0, Ps1, Ps2, Pr0, Pr1, Pr2⟩, Hl⟩, ⟨Cb, Cr0, Cr1, Cr2⟩, Hlev, HO⟩
  iexists K
  isplitl [Hi]; · iexact Hi
  isplitl [Hlev]; · iexact Hlev
  isplitl [HO]; · iexact HO
  isplitr [Hl]
  · isplitl [Pb]; · iexact Pb
    isplitl [Cb]; · iexact Cb
    isplitl [Ps0 Pr0 Mb0 Ms0 Mr0 Tb0 Ts0 Tr0 Cr0]
    · isplitl [Ps0]; · iexact Ps0
      isplitl [Pr0]; · iexact Pr0
      isplitl [Mb0]; · iexact Mb0
      isplitl [Ms0]; · iexact Ms0
      isplitl [Mr0]; · iexact Mr0
      isplitl [Tb0]; · iexact Tb0
      isplitl [Ts0]; · iexact Ts0
      isplitl [Tr0] <;> iassumption
    isplitl [Ps1 Pr1 Mb1 Ms1 Mr1 Tb1 Ts1 Tr1 Cr1]
    · isplitl [Ps1]; · iexact Ps1
      isplitl [Pr1]; · iexact Pr1
      isplitl [Mb1]; · iexact Mb1
      isplitl [Ms1]; · iexact Ms1
      isplitl [Mr1]; · iexact Mr1
      isplitl [Tb1]; · iexact Tb1
      isplitl [Ts1]; · iexact Ts1
      isplitl [Tr1] <;> iassumption
    isplitl [Ps2]; · iexact Ps2
    isplitl [Pr2]; · iexact Pr2
    isplitl [Mb2]; · iexact Mb2
    isplitl [Ms2]; · iexact Ms2
    isplitl [Mr2]; · iexact Mr2
    isplitl [Tb2]; · iexact Tb2
    isplitl [Ts2]; · iexact Ts2
    isplitl [Tr2] <;> iassumption
  iexact Hl

/-- The semaphores after the body, in the launch's order. -/
theorem sems_out (c : Dev nD) : ghostOut c ⊢ (iprop((∃ W, owes (c : Thread nD τ) 0 W) ∗ unscopedSems0 c
    ∗ Pipeline.ownSems0 (Ix := Unit) (Name := ℕ) (U := UU) (Lvl := ℕ) (Val := Elt F) (τ := τ) osem c) : sProp 𝕄) := by
  rw [ownSems0_eq, unscopedSems0_eq]; unfold ghostOut localSems
  iintro ⟨HO, HB, ⟨S0, S1, S2⟩, ⟨R0, R1, R2⟩, Hl⟩
  isplitl [HO]; · iexact HO
  isplitl [HB]; · iexact HB
  isplitl [S0]; · iexact S0
  isplitl [S1]; · iexact S1
  isplitl [S2]; · iexact S2
  isplitl [R0]; · iexact R0
  isplitl [R1]; · iexact R1
  isplitl [R2]; · iexact R2
  iexact Hl

set_option maxRecDepth 100000 in
/-- The body from the first condition to the second. -/
theorem body_obligation (c : Dev nD) : BodyObligation (dats m 0 c) (defs₀ (F := F)) 𝒱₀ () Set.univ := fun t => by
  rw [fin_N0 t]
  have h0 (Φ : Fin 0 → sProp 𝕄) : bigSep Finset.univ Φ = iprop(emp) := by rw [Finset.univ_eq_empty, bigSep_empty]; rfl
  have hW (Φ : Fin cfg0.W → sProp 𝕄) : bigSep Finset.univ Φ = iprop(emp) := h0 Φ
  rw [hW, hW]
  show iprop(Φ₀ m c ∗ (dats m 0 c).owesAt () t0_0.castSucc ∗ emp) ⊢ wp frame (wpE (defs₀ (F := F)) 𝒱₀ c none) Set.univ body
    (fun _ => iprop(Φ₁ m c ∗ (dats m 0 c).owesAt () t0_0.succ ∗ emp))
  unfold Φ₀ start Dat.owesAt Pipeline.owesWithin
  iintro ⟨⟨⟨HG, Hc, Hlev, Hop, Hout⟩, Hs⟩, ⟨%W, -, HO⟩, -⟩
  ihave H := (ghost_in m c W) $$ [HG Hc Hlev HO]
  · isplitl [HG]; · iexact HG
    isplitl [Hc]; · iexact Hc
    isplitl [Hlev]; · iexact Hlev
    iexact HO
  icases H with ⟨%K, H⟩
  iapply (body_run m K c W)
  isplitl [H]; · iexact H
  isplitl [Hop]; · iexact Hop
  isplitl [Hs]; · iexact Hs
  isplitl [Hout]; · iexact Hout
  iintro ⟨Hg, Hop, Hs, Ho⟩
  ihave Hg := (sems_out (F := F) c) $$ Hg
  icases Hg with ⟨⟨%W', HO⟩, HB, Hsem⟩
  unfold Φ₁ final outAll
  isplitl [HB Hop Ho Hsem Hs]
  · isplitl [HB Hop Ho]
    · isplitl [HB]; · iexact HB
      isplitl [Hop] <;> iassumption
    isplitl [Hsem] <;> iassumption
  isplitl [HO]
  · iexists W'
    isplitr; · ipureintro; exact fun _ _ => Or.inl trivial
    iexact HO
  iempintro

/-! ## The launch's conditions -/

/-- What the launch hands out is what a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  iintro ⟨⟨Hx, Hw, Hv⟩, Hlev, Hcr, -, HG⟩
  ihave Hc := (creds (F := F) c) $$ Hcr
  ihave Hw := (deal_w (F := F) c _) $$ Hw
  ihave Hv := (show (((c : Thread nD τ).loc main_v1) ↦{fullShare} m ((c : Thread nD τ).loc main_v1)) ⊢ (outIn (F := F) c : sProp 𝕄) from by
    iintro H; iapply (cut_out (F := F) c); iexists _; iexact H) $$ Hv
  imodintro
  unfold start operands
  isplitl
  · isplitl [HG]; · iexact HG
    isplitl [Hc]; · iexact Hc
    isplitl [Hlev]; · iexact Hlev
    isplitl [Hx Hw]
    · isplitl [Hx]; · iexact Hx
      iexact Hw
    iexact Hv
  · iempintro

/-- With the scratch buffers it is the condition before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]; unfold Φ₀
  iintro ⟨Hs, -, Hr⟩
  isplitl [Hs]; · iexact Hs
  iapply (cut_scratch (F := F) c); iexact Hr

/-- The condition after the body gives the scratch buffers and the semaphores back. -/
theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl]; unfold Φ₁
  iintro ⟨Hf, Ho, Hs⟩
  isplitl [Hf]; · iexact Hf
  isplitl [Ho]; · iexact Ho
  iapply (glue_scratch (F := F) c); iexact Hs

/-- The pipeline itself waits on nothing. -/
theorem waits (c : Dev nD) : (levAts L lv : sProp 𝕄) ⊢ Pipeline.cellsWaits cfgs (dats m) () 0 c :=
  Pipeline.cellsWaits_intro cfgs (dats m) () 0 c fun w s t => Fin.elim0 w

/-! ## The final memory -/

/-- Chunk `j` of device `c`'s result in a memory. -/
abbrev outChunk (s : MemSt nD τ sig (Elt F)) (c : Dev nD) (j : Fin 8) : Vec F S1024x1024 .f32 :=
  ((Memref.whole main_v1).slice (chunk j) (fun _ => rfl)).view.read (Elt F) (s.mem ((c : Thread nD τ).loc main_v1))

/-- What is claimed of device `c` in a final memory. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ j, outChunk s c j = resChunk m c j

/-- A buffer held whole, at any share, is what the memory holds. -/
theorem read_whole {ℓ : Loc nD τ sig} {q : PosShare TreeShare} {f : Buf (Elt F) ℓ} (s : Phys nD τ sig (Elt F)) :
    iprop((ℓ ↦{q} f) ∗ SI s) ⊢ (⌜s.mem.mem ℓ = f⌝ : sProp 𝕄) := by
  iintro ⟨H, HSI⟩
  icombine HSI H gives %h
  ipureintro; exact funext fun i => h i (Finset.mem_univ i)

/-- A chunk that is done is so in the memory. -/
theorem read_done (c : Dev nD) (j : Fin 8) (s : Phys nD τ sig (Elt F)) :
    iprop(outDone m c j ∗ SI s) ⊢ (⌜outChunk s.mem c j = resChunk m c j⌝ : sProp 𝕄) := by
  unfold outDone
  iintro ⟨⟨%f, H, %hf⟩, HSI⟩
  icombine HSI H gives %h
  ipureintro
  refine (View.read_congr fun i hi => h i ?_).trans hf
  rw [setOn_rect]; exact (View.set_slice_whole main_v1 (chunk j)) ▸ hi

/-- So with all chunks. -/
theorem read_all (c : Dev nD) (s : Phys nD τ sig (Elt F)) :
    iprop(outAll m c ∗ SI s) ⊢ (⌜∀ j, outChunk s.mem c j = resChunk m c j⌝ : sProp 𝕄) := by
  have h : outAll m c = (bigSep Finset.univ fun j => outDone m c j) := (list8 _).symm
  rw [h]
  exact fun x hx j => ((sep_mono (bigSep_elim (Finset.mem_univ j)) .rfl).trans (read_done m c j s)) x hx

/-- What is claimed of the final memory, with the barrier at zero. -/
abbrev Ends (c : Dev nD) (s : MemSt nD τ sig (Elt F)) : Prop :=
  Final m c s ∧ ∀ sm : SemLoc sig, sm.isScoped .tc = false → s.sem ((c : Thread nD τ), sm) = 0

/-- What a device ends with fixes its part of the memory. -/
theorem final_fixes (c : Dev nD) (s : Phys nD τ sig (Elt F)) : iprop(final m c ∗ SI s) ⊢ (<pers> ⌜Ends m c s.mem⌝ : sProp 𝕄) := by
  have hx : iprop(final m c ∗ SI s) ⊢ (⌜s.mem.mem ((c : Thread nD τ).loc main_arg0) = m ((c : Thread nD τ).loc main_arg0)⌝ : sProp 𝕄) := by
    unfold final operands
    iintro ⟨⟨-, ⟨H, -, -⟩, -⟩, HSI⟩
    iapply (read_whole (F := F) (ℓ := (c : Thread nD τ).loc main_arg0) s)
    isplitl [H] <;> iassumption
  have hw : iprop(final m c ∗ SI s) ⊢ (⌜s.mem.mem ((c : Thread nD τ).loc main_arg1) = m ((c : Thread nD τ).loc main_arg1)⌝ : sProp 𝕄) := by
    unfold final operands
    iintro ⟨⟨-, ⟨-, H, -⟩, -⟩, HSI⟩
    iapply (read_whole (F := F) (ℓ := (c : Thread nD τ).loc main_arg1) s)
    isplitl [H] <;> iassumption
  have ho : iprop(final m c ∗ SI s) ⊢ (⌜∀ j, outChunk s.mem c j = resChunk m c j⌝ : sProp 𝕄) := by
    unfold final
    iintro ⟨⟨-, -, H⟩, HSI⟩
    iapply (read_all m c s)
    isplitl [H] <;> iassumption
  have hb : iprop(final m c ∗ SI s)
      ⊢ (⌜∀ sm : SemLoc sig, sm.isScoped .tc = false → s.mem.sem ((c : Thread nD τ), sm) = 0⌝ : sProp 𝕄) := by
    unfold final
    iintro ⟨⟨H, -, -⟩, HSI⟩
    ihave %h := (tcUnscoped_read c s) $$ [H HSI]
    · isplitl [H] <;> iassumption
    ipureintro; exact h
  exact Entails.trans (show iprop(final m c ∗ SI s) ⊢ (⌜Ends m c s.mem⌝ : sProp 𝕄) from
    fun y hy => ⟨⟨⟨hx y hy, hw y hy⟩, ho y hy⟩, hb y hy⟩) persistently_pure.2

/-- The same, in the form that the launch asks for. -/
theorem read_final (c : Dev nD) (s : Phys nD τ sig (Elt F)) :
    iprop(final m c ∗ emp ∗ SI s) ⊢ (|={Set.univ}=> iprop(⌜Ends m c s.mem⌝ ∗ SI s) : sProp 𝕄) := by
  iintro ⟨H, -, HSI⟩
  ihave %h := (final_fixes m c s) $$ [H HSI]
  · isplitl [H] <;> iassumption
  imodintro
  isplitr; · ipureintro; exact h
  iexact HSI

set_option maxRecDepth 100000 in
/-- On the mesh of four devices, for any float values, from any memory with every semaphore at zero: every fair execution
    terminates, and every final state has the operands unchanged, the results as computed and every semaphore at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun c w => Fin.elim0 w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_parts _ _) $$ Hu
      icases H with ⟨HP, HX⟩
      imod (deal m) $$ HX with HG
      imodintro
      isplitl [HP] <;> iassumption)
    (hglob := glob m)
    (hA := fun _ w => Fin.elim0 w) (hpf := fun _ k => k.elim0)
    (X := start m) (Y := final m) (Z := fun _ => iprop(emp))
    (hX := start_intro m ρ) (hin := phi0_intro m) (hout := phi1_exit m)
    (QY := Ends m)
    (hY := read_final m)
    (hQ := fun _ h hs => ⟨fun c => (h c).2.2.1, sem_eq_zero hs fun c => (h c).2.2.2⟩)

end Cert.Exchange
-- ==== Proof.Ref.lean ====
/-
  The run of the reference program: one `dot_general` on one device. For any float values, every fair execution from any
  memory with every semaphore at zero ends with the product of the two operands in the result buffer, the operands
  unchanged and every semaphore at zero.
-/
module

public import Idealize.ShloMosaic.Lib.StableHlo.Run
public import proofs.«01_k».proof.Proof.Gen.ReferenceIdeal

@[expose] public section

noncomputable section

namespace Cert.Exchange.Ref

open Cert.ReferenceIdeal Cert.ReferenceIdeal.Gen
open Idealize.ShloMosaic Idealize.ShloMosaic.TcCoe Idealize.ShloMosaic.StableHlo Idealize.SL.Sem

variable {F : FTy → Type} [FloatOps F]

/-- The product the reference computes. -/
def product (x : FVec F S4096x4096 .f32) (w : FVec F S4096x8192 .f32) : FVec F S4096x8192 .f32 :=
  Host.dotGeneral dot_S4096x4096_S4096x8192_S4096x8192_1_0_0_1_n_n none x w

/-- The program's one operation. -/
abbrev line : List (HloOp τ sig (Elt F)) := [binary main_arg0 main_arg1 main_v0 product]

/-- No buffer and no semaphore belongs to a kernel. -/
theorem no_scoped_buffer : (Finset.univ.filter fun b : Ref sig .tc => b.isScoped) = ∅ := by decide
/-- No semaphore belongs to a kernel. -/
theorem no_scoped_semaphore : (Finset.univ.filter fun s : SemLoc sig => s.isScoped .tc) = ∅ := by decide

/-- What the operation leaves in the result and in the operands. -/
theorem result_after (V : Valuation τ sig (Elt F)) :
    after line V (main_v0 : DevRef τ sig) = product (V (main_arg0 : DevRef τ sig)) (V (main_arg1 : DevRef τ sig)) := by after_results
/-- The operation leaves `x`, -/
theorem x_after (V : Valuation τ sig (Elt F)) : after line V (main_arg0 : DevRef τ sig) = V (main_arg0 : DevRef τ sig) := by after_results
/-- and `w`. -/
theorem w_after (V : Valuation τ sig (Elt F)) : after line V (main_arg1 : DevRef τ sig) = V (main_arg1 : DevRef τ sig) := by after_results

/-- The run: the product in the result buffer, the operands as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = product (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono
    (fun _ h c => ⟨(h c main_v0).trans (result_after _), (h c main_arg0).trans (x_after _), (h c main_arg1).trans (w_after _)⟩)
    (run_seq no_scoped_buffer no_scoped_semaphore defs main (fun _ => line) (fun _ => rfl)
      (fun _ => show List.Forall _ [_] from binary_bufs_sub ..) m ρ)

end Cert.Exchange.Ref

end
-- ==== Proof.Value.lean ====
/-
  The equation. At the ideal values a device's result is its block of rows of the whole product: each of the four phases
  contributes the contraction over one device's columns of `x`, and the four together are the contraction over all of them.
  The phases come in the order own, previous, next, opposite device; a sum of extended reals does not depend on the order.
-/
module

public import Idealize.ShloMosaic.Lib.MatmulPlain
public import Idealize.ShloMosaic.Lib.StackMember
public import Idealize.ShloMosaic.Lib.Layout
public import proofs.«01_k».proof.Proof.Launch
public import proofs.«01_k».proof.Proof.Ref

@[expose] public section

noncomputable section

namespace Cert.Exchange

open Cert.KernelIdeal Cert.KernelIdeal.Gen
open Idealize.ShloMosaic Idealize.ShloMosaic.TcCoe Idealize.ShloMosaic.ValueIdx
open scoped BigOperators

/-- The whole of `x` is four blocks of columns. -/
theorem x_tiles : Layout.Tiles ⟨2, ![4096, 1024]⟩ ⟨2, ![4096, 4096]⟩ 1 4 := by decide

/-! ## Sums -/

/-- Position `k` of block `s` in a row of four blocks. -/
def at4 (s : Fin 4) (k : Fin 1024) : Fin 4096 := ⟨s.val * 1024 + k.val, by omega⟩
/-- Position `k` of block `j` in a row of eight blocks. -/
def at8 (j : Fin 8) (k : Fin 1024) : Fin 8192 := ⟨j.val * 1024 + k.val, by omega⟩

/-- Every position of a row of eight blocks is one in some block. -/
theorem at8_surj (n : Fin 8192) : ∃ j k, n = at8 j k :=
  ⟨⟨n.val / 1024, by omega⟩, ⟨n.val % 1024, by omega⟩, Fin.ext (by show n.val = n.val / 1024 * 1024 + n.val % 1024; omega)⟩

/-- A sum over 4096 positions, block by block. -/
theorem sum_blocks {M : Type*} [AddCommMonoid M] (f : Fin 4096 → M) : ∑ k, f k = ∑ s : Fin 4, ∑ k : Fin 1024, f (at4 s k) := by
  rw [← Fintype.sum_prod_type' (f := fun s k => f (at4 s k))]
  refine (Equiv.sum_comp (finProdFinEquiv (m := 4) (n := 1024)) f).symm.trans (Finset.sum_congr rfl fun p _ => congrArg f (Fin.ext ?_))
  show p.2.val + 1024 * p.1.val = p.1.val * 1024 + p.2.val
  omega

/-- A sum over the devices, in the order in which device `c` meets them. -/
theorem sum_ring {M : Type*} [AddCommMonoid M] (f : Dev nD → M) (c : Dev nD) :
    f c + f (bwd 0 c) + f (bwd 2 c) + f (bwd 1 c) = ∑ s, f s := by
  have h : (Finset.univ : Finset (Dev nD)) = {c, bwd 0 c, bwd 2 c, bwd 1 c} := by revert c; decide
  have h0 : c ∉ ({bwd 0 c, bwd 2 c, bwd 1 c} : Finset (Dev nD)) := by revert c; decide
  have h1 : bwd 0 c ∉ ({bwd 2 c, bwd 1 c} : Finset (Dev nD)) := by revert c; decide
  have h2 : bwd 2 c ∉ ({bwd 1 c} : Finset (Dev nD)) := by revert c; decide
  rw [h, Finset.sum_insert h0, Finset.sum_insert h1, Finset.sum_insert h2, Finset.sum_singleton, add_assoc, add_assoc]

/-! ## The blocks, entry by entry -/

/-- An entry of a partial product. -/
theorem part_apply (a : Vec Ideal S1024x1024 .bf16) (b : Vec Ideal S1024x1024 .f32) (r n : Fin 1024) :
    part (F := Ideal) a b (ix2 r n) = ∑ k : Fin 1024, a (ix2 r k) * b (ix2 k n) := by
  refine (Ideal.matmul_plain_apply (M := 1024) (K := 1024) (N := 1024) (φ₁ := .bf16) (φ₂ := .bf16) none a b
    (constant S1024x1024 .f32 0x00000000#32) r n).trans ?_
  show Ideal.ofBits .f32 0x00000000#32 + _ = _
  rw [Ideal.ofBits_zero_f32, zero_add]

section
variable (m : (ℓ : Loc nD τ sig) → Buf (Elt Ideal) ℓ)

/-- An entry of what one device sends another. -/
theorem sent_apply (p j : Dev nD) (r k : Fin 1024) :
    sent (F := Ideal) m p j (ix2 r k) = m ((p : Thread nD τ).loc main_arg0) (ix2 (at4 j r) k) := by
  show xBlk m p j (ix2 r k) = _
  unfold xBlk
  rw [View.read_apply]
  refine congrArg (m ((p : Thread nD τ).loc main_arg0)) (funext fun a => Fin.ext ?_)
  match a with
  | ⟨0, _⟩ => show 1024 * j.val + 1 * r.val = j.val * 1024 + r.val; omega
  | ⟨1, _⟩ => show 0 + 1 * k.val = k.val; omega

/-- An entry of a block of `w`. -/
theorem wBlk_apply (c p : Dev nD) (j : Fin 8) (k n : Fin 1024) :
    wBlk (F := Ideal) m c p j (ix2 k n) = m ((c : Thread nD τ).loc main_arg1) (ix2 (at4 p k) (at8 j n)) := by
  unfold wBlk
  rw [View.read_apply]
  refine congrArg (m ((c : Thread nD τ).loc main_arg1)) (funext fun a => Fin.ext ?_)
  match a with
  | ⟨0, _⟩ => show 1024 * p.val + 1 * k.val = p.val * 1024 + k.val; omega
  | ⟨1, _⟩ => show 1024 * j.val + 1 * n.val = j.val * 1024 + n.val; omega

/-- An entry of a chunk of the result buffer. -/
theorem outChunk_apply (s : MemSt nD τ sig (Elt Ideal)) (c : Dev nD) (j : Fin 8) (r n : Fin 1024) :
    outChunk s c j (ix2 r n) = s.mem ((c : Thread nD τ).loc main_v1) (ix2 r (at8 j n)) := by
  unfold outChunk
  rw [View.read_apply]
  refine congrArg (s.mem ((c : Thread nD τ).loc main_v1)) (funext fun a => Fin.ext ?_)
  match a with
  | ⟨0, _⟩ => show 0 + 1 * r.val = r.val; omega
  | ⟨1, _⟩ => show 1024 * j.val + 1 * n.val = j.val * 1024 + n.val; omega

/-! ## The whole -/

/-- An entry of the whole product, its contraction block by block. -/
theorem product_apply (x : FVec Ideal Cert.ReferenceIdeal.S4096x4096 .f32) (w : FVec Ideal Cert.ReferenceIdeal.S4096x8192 .f32)
    (r : Fin 4096) (n : Fin 8192) :
    Ref.product (F := Ideal) x w (ix2 r n) = ∑ s : Fin 4, ∑ k : Fin 1024, x (ix2 r (at4 s k)) * w (ix2 (at4 s k) n) :=
  (StackMember.dotGeneral_plain_apply none x w r n).trans (sum_blocks _)

variable (x : FVec Ideal Cert.ReferenceIdeal.S4096x4096 .f32) (w : FVec Ideal Cert.ReferenceIdeal.S4096x8192 .f32)
  (hx : ∀ c : Dev nD, m ((c : Thread nD τ).loc main_arg0) = Layout.block ⟨2, ![4096, 1024]⟩ ⟨2, ![4096, 4096]⟩ 1 4 c x x_tiles)
  (hw : ∀ c : Dev nD, m ((c : Thread nD τ).loc main_arg1) = w)
include hx hw

/-- One phase's contribution: the contraction over device `p`'s columns of `x`. -/
theorem phase_apply (c p : Dev nD) (j : Fin 8) (r n : Fin 1024) :
    part (F := Ideal) (sent m p c) (wBlk m c p j) (ix2 r n)
      = ∑ k : Fin 1024, x (ix2 (at4 c r) (at4 p k)) * w (ix2 (at4 p k) (at8 j n)) := by
  rw [part_apply]
  refine Finset.sum_congr rfl fun k _ => ?_
  rw [sent_apply, wBlk_apply, hx p, hw c, Layout.block_apply]
  refine congrArg (· * _) (congrArg x (funext fun a => ?_))
  match a with
  | ⟨0, _⟩ => rfl
  | ⟨1, _⟩ => rfl

/-- An entry of a chunk is the entry of the product that it stands for. -/
theorem resChunk_apply (c : Dev nD) (j : Fin 8) (r n : Fin 1024) :
    resChunk (F := Ideal) m c j (ix2 r n) = Ref.product (F := Ideal) x w (ix2 (at4 c r) (at8 j n)) := by
  rw [product_apply, ← sum_ring (fun p => ∑ k : Fin 1024, x (ix2 (at4 c r) (at4 p k)) * w (ix2 (at4 p k) (at8 j n))) c,
    ← phase_apply m x w hx hw, ← phase_apply m x w hx hw, ← phase_apply m x w hx hw, ← phase_apply m x w hx hw]
  rfl

/-- A device whose chunks are as computed holds its block of rows of the product. -/
theorem block_of_chunks (s : MemSt nD τ sig (Elt Ideal)) (c : Dev nD) (h : ∀ j, outChunk s c j = resChunk m c j) :
    s.mem ((c : Thread nD τ).loc main_v1) = Layout.block ⟨2, ![1024, 8192]⟩ ⟨2, ![4096, 8192]⟩ 0 4 c (Ref.product (F := Ideal) x w) := by
  funext i
  obtain ⟨j, n, hn⟩ := at8_surj (i 1)
  have hi : i = ix2 (n0 := 1024) (n1 := 8192) (i 0) (at8 j n) := (eq_ix2 i).trans (congrArg (ix2 (i 0)) hn)
  refine (congrArg (s.mem ((c : Thread nD τ).loc main_v1)) hi).trans ((outChunk_apply s c j (i 0) n).symm.trans ?_)
  refine (congrFun (h j) _).trans ((resChunk_apply m x w hx hw c j (i 0) n).trans ?_)
  refine congrArg (Ref.product (F := Ideal) x w) (funext fun a => Fin.ext ?_)
  match a with
  | ⟨0, _⟩ => rfl
  | ⟨1, _⟩ => exact (congrArg Fin.val hn).symm

end

end Cert.Exchange

end
-- ==== Proof.lean ====
/-
  The certificate of an all-to-all fused with a matrix product on four devices. The run of the kernel is proved once, for any
  float values (Proof/Launch.lean `run_main`); the two programs of the kernel have the same text, so both frames are that run.
  The equation with the plain product is Proof/Value.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import proofs.«01_k».proof.Proof.Value

@[expose] public section

noncomputable section

namespace Cert.Proof

open Idealize.ShloMosaic Idealize.SL.Sem

/-- The kernel runs on floats as bit patterns, leaves its operands as they were and every semaphore at zero. Its text is the
    one that the run was proved of. -/
theorem frame_kernel : Cert.quiescent_Kernel := fun m ρ _ =>
  (θ_run Cert.KernelIdeal.defs _ _).mono (fun _ h => ⟨fun c => (h.1 c).1, h.2⟩) (Cert.Exchange.run_main (F := Bits) m ρ)

/-- So it does on exact values. -/
theorem frame_ideal : Cert.quiescent_KernelIdeal := fun m ρ _ =>
  (θ_run Cert.KernelIdeal.defs _ _).mono (fun _ h => ⟨fun c => (h.1 c).1, h.2⟩) (Cert.Exchange.run_main (F := Ideal) m ρ)

/-- The reference runs and leaves its operands as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Exchange.Ref.run_main (F := Ideal) m ρ)

/-- Every device of the kernel ends with its block of rows of the product that the reference computes. -/
theorem equation : Cert.algebraic_KernelIdeal_ReferenceIdeal := by
  intro m ρ m' ρ' _ placed
  refine ⟨Cert.Exchange.Ref.product (F := Ideal) _ _, ?_, (θ_run Cert.ReferenceIdeal.defs _ _).mono (fun _ h => h 0)
    (Cert.Exchange.Ref.run_main (F := Ideal) m' ρ')⟩
  exact (θ_run Cert.KernelIdeal.defs _ _).mono
    (fun r h c => ⟨Cert.Exchange.block_of_chunks m _ _ (fun c => (placed c).1) (fun c => (placed c).2) r.2 c (h.1 c).2, (h.1 c).1⟩)
    (Cert.Exchange.run_main (F := Ideal) m ρ)

/-- All five claims. -/
theorem claim : Cert.Claim :=
  ⟨Cert.Kernel.Gen.facts, Cert.KernelIdeal.Gen.facts, Cert.ReferenceIdeal.Gen.facts,
    frame_kernel, frame_ideal, frame_reference, trivial, equation⟩

end Cert.Proof

end
